-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S2048x128x128 : Shape := ⟨3, ![2048, 128, 128]⟩
abbrev S2048x128 : Shape := ⟨2, ![2048, 128]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S2048 : Shape := ⟨1, ![2048]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  reducesTo_S2048x128_S2048_d1 : S2048x128.ReducesTo [1] S2048
  reducesTo_S2048_S_d0 : S2048.ReducesTo [0] S_
  bcast_S_S2048x128x128 : S_.BroadcastsInDim S2048x128x128 (![] : Fin 0 → Fin S2048x128x128.rank)
  reducesTo_S2048x128x128_S_d0_1_2 : S2048x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v5 : IVec S_ 1) (main_v8 : IVec S_ 1) (main_v12 : IVec S_ 1) (main_v15 : IVec S128x128 1) : IVec S_ 1 :=
  let main_c_6 : IVec S_ 1 := constantI S_ 1 1#1
  let main_v16 : IVec S_ 1 := (fun x v => Host.reduce IntOp.andi x v reducesTo_S128x128_S_d0_1 h_S_) main_v15 main_c_6
  let main_v17 : IVec S_ 1 := andi main_v12 main_v16
  let main_v18 : FVec F S128 .f32 := Host.absf main_arg4
  let main_cst_7 : FVec F S_ .f32 := constant S_ .f32 0x7F800000#32
  let main_v19 : FVec F S128 .f32 := broadcastInDim S128 ![] bcast_S_S128 main_cst_7
  let main_v20 : IVec S128 1 := cmpf .olt main_v18 main_v19
  let main_c_8 : IVec S_ 1 := constantI S_ 1 1#1
  let main_v21 : IVec S_ 1 := (fun x v => Host.reduce IntOp.andi x v reducesTo_S128_S_d0 h_S_) main_v20 main_c_8
  let main_v22 : IVec S_ 1 := andi main_v17 main_v21
  let main_v23 : IVec S_ 1 := andi main_v5 main_v8
  let main_v24 : IVec S_ 1 := andi main_v23 main_v22
  main_v24

def fn {F : FTy → Type} [FloatOps F] (main_arg0 : FVec F S2048x128x128 .f32) (main_arg1 : IVec S2048x128 32) (main_arg2 : IVec S2048x128 1) (main_arg3 : FVec F S128x128 .f32) (main_arg4 : FVec F S128 .f32) (main_arg5 : FVec F S256x64 .f32) (main_arg6 : FVec F S64 .f32) (main_arg7 : FVec F S64x1 .f32) (main_arg8 : FVec F S1 .f32) : IVec S_ 1 :=
  let main_c : IVec S_ 32 := constantI S_ 32 0#32
  let main_v0 : IVec S2048x128 32 := broadcastInDim S2048x128 ![] bcast_S_S2048x128 main_c
  let main_v1 : IVec S2048x128 1 := cmpi .sge main_arg1 main_v0
  let main_c_0 : IVec S_ 32 := constantI S_ 32 128#32
  let main_v2 : IVec S2048x128 32 := broadcastInDim S2048x128 ![] bcast_S_S2048x128 main_c_0
  let main_v3 : IVec S2048x128 1 := cmpi .slt main_arg1 main_v2
  let main_v4 : IVec S2048x128 1 := andi main_v1 main_v3
  let main_c_1 : IVec S_ 1 := constantI S_ 1 1#1
  let main_v5 : IVec S_ 1 := (fun x v => Host.reduce IntOp.andi x v reducesTo_S2048x128_S_d0_1 h_S_) main_v4 main_c_1
  let main_v6 : IVec S2048x128 1 := noti main_arg2
  let main_c_2 : IVec S_ 1 := constantI S_ 1 0#1
  let main_v7 : IVec S2048 1 := (fun x v => Host.reduce IntOp.ori x v reducesTo_S2048x128_S2048_d1 h_S_) main_v6 main_c_2
  let main_c_3 : IVec S_ 1 := constantI S_ 1 1#1
  let main_v8 : IVec S_ 1 := (fun x v => Host.reduce IntOp.andi x v reducesTo_S2048_S_d0 h_S_) main_v7 main_c_3
  let main_v9 : FVec F S2048x128x128 .f32 := Host.absf main_arg0
  let main_cst : FVec F S_ .f32 := constant S_ .f32 0x7F800000#32
  let main_v10 : FVec F S2048x128x128 .f32 := broadcastInDim S2048x128x128 ![] bcast_S_S2048x128x128 main_cst
  let main_v11 : IVec S2048x128x128 1 := cmpf .olt main_v9 main_v10
  let main_c_4 : IVec S_ 1 := constantI S_ 1 1#1
  let main_v12 : IVec S_ 1 := (fun x v => Host.reduce IntOp.andi x v reducesTo_S2048x128x128_S_d0_1_2 h_S_) main_v11 main_c_4
  let main_v13 : FVec F S128x128 .f32 := Host.absf main_arg3
  let main_cst_5 : FVec F S_ .f32 := constant S_ .f32 0x7F800000#32
  let main_v14 : FVec F S128x128 .f32 := broadcastInDim S128x128 ![] bcast_S_S128x128 main_cst_5
  let main_v15 : IVec S128x128 1 := cmpf .olt main_v13 main_v14
  fn_part1 (F := F) main_arg4 main_v5 main_v8 main_v12 main_v15
-- ==== Kernel.lean ====
abbrev S2048x128x128 : Shape := ⟨3, ![2048, 128, 128]⟩
abbrev S2048x128 : Shape := ⟨2, ![2048, 128]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩
abbrev S1x128 : Shape := ⟨2, ![1, 128]⟩
abbrev S8192 : Shape := ⟨1, ![8192]⟩
abbrev S1x8192 : Shape := ⟨2, ![1, 8192]⟩
abbrev S64x8192 : Shape := ⟨2, ![64, 8192]⟩
abbrev S2112x256 : Shape := ⟨2, ![2112, 256]⟩
abbrev S64x128x128 : Shape := ⟨3, ![64, 128, 128]⟩
abbrev S64x128 : Shape := ⟨2, ![64, 128]⟩
abbrev S64x256 : Shape := ⟨2, ![64, 256]⟩
abbrev S2x128x8192 : Shape := ⟨3, ![2, 128, 8192]⟩
abbrev S1x128x8192 : Shape := ⟨3, ![1, 128, 8192]⟩
abbrev S128x8192 : Shape := ⟨2, ![128, 8192]⟩
abbrev S1x128x128 : Shape := ⟨3, ![1, 128, 128]⟩
abbrev S128x128x1 : Shape := ⟨3, ![128, 128, 1]⟩
abbrev S2048x256 : Shape := ⟨2, ![2048, 256]⟩
abbrev S1x64 : Shape := ⟨2, ![1, 64]⟩
abbrev S1x1 : Shape := ⟨2, ![1, 1]⟩
abbrev S2048x1 : Shape := ⟨2, ![2048, 1]⟩
abbrev S512x256 : Shape := ⟨2, ![512, 256]⟩
abbrev S512x1 : Shape := ⟨2, ![512, 1]⟩
abbrev S512x64 : Shape := ⟨2, ![512, 64]⟩

abbrev nBuf : Space → Nat
  | .hbm => 59
  | .vmem => 21
  | .smem => 0
  | _ => 0

abbrev bufTy : (tb : Table) → Fin (tcTables nBuf tb) → BufTy
  | .hbm, ⟨0, _⟩ => ⟨S2048x128x128, .f32⟩
  | .hbm, ⟨1, _⟩ => ⟨S2048x128, .i32⟩
  | .hbm, ⟨2, _⟩ => ⟨S2048x128, .i1⟩
  | .hbm, ⟨3, _⟩ => ⟨S128x128, .f32⟩
  | .hbm, ⟨4, _⟩ => ⟨S128, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S2048x128, .f32⟩
  | .hbm, ⟨10, _⟩ => ⟨S_, .f32⟩
  | .hbm, ⟨11, _⟩ => ⟨S2048x128, .f32⟩
  | .hbm, ⟨12, _⟩ => ⟨S2048x128, .f32⟩
  | .hbm, ⟨13, _⟩ => ⟨S128x128, .bf16⟩
  | .hbm, ⟨14, _⟩ => ⟨S1x128, .f32⟩
  | .hbm, ⟨15, _⟩ => ⟨S1x128, .bf16⟩
  | .hbm, ⟨16, _⟩ => ⟨S8192, .i32⟩
  | .hbm, ⟨17, _⟩ => ⟨S1x8192, .i32⟩
  | .hbm, ⟨18, _⟩ => ⟨S64, .i32⟩
  | .hbm, ⟨19, _⟩ => ⟨S64x1, .i32⟩
  | .hbm, ⟨20, _⟩ => ⟨S_, .i32⟩
  | .hbm, ⟨21, _⟩ => ⟨S64x1, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i32⟩
  | .hbm, ⟨26, _⟩ => ⟨S64x8192, .i32⟩
  | .hbm, ⟨27, _⟩ => ⟨S64x8192, .i32⟩
  | .hbm, ⟨28, _⟩ => ⟨S64x8192, .i1⟩
  | .hbm, ⟨29, _⟩ => ⟨S64x8192, .bf16⟩
  | .hbm, ⟨30, _⟩ => ⟨S_, .i32⟩
  | .hbm, ⟨31, _⟩ => ⟨S_, .i32⟩
  | .hbm, ⟨32, _⟩ => ⟨S1x8192, .i32⟩
  | .hbm, ⟨33, _⟩ => ⟨S1x8192, .i32⟩
  | .hbm, ⟨34, _⟩ => ⟨S1x8192, .i32⟩
  | .hbm, ⟨35, _⟩ => ⟨S_, .i32⟩
  | .hbm, ⟨36, _⟩ => ⟨S1x8192, .i32⟩
  | .hbm, ⟨37, _⟩ => ⟨S1x8192, .i1⟩
  | .hbm, ⟨38, _⟩ => ⟨S1x8192, .i32⟩
  | .hbm, ⟨39, _⟩ => ⟨S1x8192, .i32⟩
  | .hbm, ⟨40, _⟩ => ⟨S_, .i32⟩
  | .hbm, ⟨41, _⟩ => ⟨S1x8192, .i32⟩
  | .hbm, ⟨42, _⟩ => ⟨S1x8192, .i1⟩
  | .hbm, ⟨43, _⟩ => ⟨S1x8192, .i1⟩
  | .hbm, ⟨44, _⟩ => ⟨S_, .i32⟩
  | .hbm, ⟨45, _⟩ => ⟨S1x8192, .i32⟩
  | .hbm, ⟨46, _⟩ => ⟨S1x8192, .i32⟩
  | .hbm, ⟨47, _⟩ => ⟨S1x8192, .i32⟩
  | .hbm, ⟨48, _⟩ => ⟨S64x8192, .i32⟩
  | .hbm, ⟨49, _⟩ => ⟨S64x8192, .i32⟩
  | .hbm, ⟨50, _⟩ => ⟨S64x8192, .i1⟩
  | .hbm, ⟨51, _⟩ => ⟨S64x8192, .bf16⟩
  | .hbm, ⟨52, _⟩ => ⟨S2112x256, .f32⟩
  | .hbm, ⟨53, _⟩ => ⟨S2048x256, .f32⟩
  | .hbm, ⟨54, _⟩ => ⟨S256x64, .bf16⟩
  | .hbm, ⟨55, _⟩ => ⟨S1x64, .f32⟩
  | .hbm, ⟨56, _⟩ => ⟨S64x1, .bf16⟩
  | .hbm, ⟨57, _⟩ => ⟨S1x1, .f32⟩
  | .hbm, ⟨58, _⟩ => ⟨S2048x1, .f32⟩
  | .local _ .vmem, ⟨0, _⟩ => ⟨S64x128x128, .f32⟩
  | .local _ .vmem, ⟨1, _⟩ => ⟨S64x128x128, .f32⟩
  | .local _ .vmem, ⟨2, _⟩ => ⟨S64x128, .i32⟩
  | .local _ .vmem, ⟨3, _⟩ => ⟨S64x128, .i32⟩
  | .local _ .vmem, ⟨4, _⟩ => ⟨S64x128, .f32⟩
  | .local _ .vmem, ⟨5, _⟩ => ⟨S64x128, .f32⟩
  | .local _ .vmem, ⟨6, _⟩ => ⟨S128x128, .bf16⟩
  | .local _ .vmem, ⟨7, _⟩ => ⟨S1x128, .bf16⟩
  | .local _ .vmem, ⟨8, _⟩ => ⟨S64x8192, .bf16⟩
  | .local _ .vmem, ⟨9, _⟩ => ⟨S64x8192, .bf16⟩
  | .local _ .vmem, ⟨10, _⟩ => ⟨S64x256, .f32⟩
  | .local _ .vmem, ⟨11, _⟩ => ⟨S64x256, .f32⟩
  | .local _ .vmem, ⟨12, _⟩ => ⟨S2x128x8192, .bf16⟩
  | .local _ .vmem, ⟨13, _⟩ => ⟨S512x256, .f32⟩
  | .local _ .vmem, ⟨14, _⟩ => ⟨S512x256, .f32⟩
  | .local _ .vmem, ⟨15, _⟩ => ⟨S256x64, .bf16⟩
  | .local _ .vmem, ⟨16, _⟩ => ⟨S1x64, .f32⟩
  | .local _ .vmem, ⟨17, _⟩ => ⟨S64x1, .bf16⟩
  | .local _ .vmem, ⟨18, _⟩ => ⟨S1x1, .f32⟩
  | .local _ .vmem, ⟨19, _⟩ => ⟨S512x1, .f32⟩
  | .local _ .vmem, ⟨20, _⟩ => ⟨S512x1, .f32⟩
  | _, _ => ⟨S2048x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v2 : Index := Scalar.indexCast v1
  let c0 : Index := 0#32
  let c0_0 : Index := 0#32
  ![v2.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v123 : Index := Scalar.indexCast v0
  let c0_25 : Index := 0#32
  let c0_26 : Index := 0#32
  ![v123.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v146 : Index := Scalar.indexCast v0
  let c0_35 : Index := 0#32
  let c128 : Index := 128#32
  ![v146.toNat, 0, 128]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v169 : Index := Scalar.indexCast v0
  let c0_44 : Index := 0#32
  let c256 : Index := 256#32
  ![v169.toNat, 0, 256]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v192 : Index := Scalar.indexCast v0
  let c0_53 : Index := 0#32
  let c384 : Index := 384#32
  ![v192.toNat, 0, 384]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v215 : Index := Scalar.indexCast v0
  let c0_62 : Index := 0#32
  let c512 : Index := 512#32
  ![v215.toNat, 0, 512]
def k0_off7 (i : grid0.Coords) : Fin 3 → Nat :=
  let arg0 : BitVec 32 := BitVec.ofNat 32 (i 0).val
  let c2_i32 : BitVec 32 := 2#32
  let v0 : BitVec 32 := Scalar.remsi arg0 c2_i32
  let v238 : Index := Scalar.indexCast v0
  let c0_71 : Index := 0#32
  let c640 : Index := 640#32
  ![v238.toNat, 0, 640]
def k0_off8 (i : grid0.Coords) : Fin 3 → Nat :=
  let arg0 : BitVec 32 := BitVec.ofNat 32 (i 0).val
  let c2_i32 : BitVec 32 := 2#32
  let v0 : BitVec 32 := Scalar.remsi arg0 c2_i32
  let v261 : Index := Scalar.indexCast v0
  let c0_80 : Index := 0#32
  let c768 : Index := 768#32
  ![v261.toNat, 0, 768]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v284 : Index := Scalar.indexCast v0
  let c0_89 : Index := 0#32
  let c896 : Index := 896#32
  ![v284.toNat, 0, 896]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v307 : Index := Scalar.indexCast v0
  let c0_98 : Index := 0#32
  let c1024 : Index := 1024#32
  ![v307.toNat, 0, 1024]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v330 : Index := Scalar.indexCast v0
  let c0_107 : Index := 0#32
  let c1152 : Index := 1152#32
  ![v330.toNat, 0, 1152]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v353 : Index := Scalar.indexCast v0
  let c0_116 : Index := 0#32
  let c1280 : Index := 1280#32
  ![v353.toNat, 0, 1280]
def k0_off13 (i : grid0.Coords) : Fin 3 → Nat :=
  let arg0 : BitVec 32 := BitVec.ofNat 32 (i 0).val
  let c2_i32 : BitVec 32 := 2#32
  let v0 : BitVec 32 := Scalar.remsi arg0 c2_i32
  let v376 : Index := Scalar.indexCast v0
  let c0_125 : Index := 0#32
  let c1408 : Index := 1408#32
  ![v376.toNat, 0, 1408]
def k0_off14 (i : grid0.Coords) : Fin 3 → Nat :=
  let arg0 : BitVec 32 := BitVec.ofNat 32 (i 0).val
  let c2_i32 : BitVec 32 := 2#32
  let v0 : BitVec 32 := Scalar.remsi arg0 c2_i32
  let v399 : Index := Scalar.indexCast v0
  let c0_134 : Index := 0#32
  let c1536 : Index := 1536#32
  ![v399.toNat, 0, 1536]
def k0_off15 (i : grid0.Coords) : Fin 3 → Nat :=
  let arg0 : BitVec 32 := BitVec.ofNat 32 (i 0).val
  let c2_i32 : BitVec 32 := 2#32
  let v0 : BitVec 32 := Scalar.remsi arg0 c2_i32
  let v422 : Index := Scalar.indexCast v0
  let c0_143 : Index := 0#32
  let c1664 : Index := 1664#32
  ![v422.toNat, 0, 1664]
def k0_off16 (i : grid0.Coords) : Fin 3 → Nat :=
  let arg0 : BitVec 32 := BitVec.ofNat 32 (i 0).val
  let c2_i32 : BitVec 32 := 2#32
  let v0 : BitVec 32 := Scalar.remsi arg0 c2_i32
  let v445 : Index := Scalar.indexCast v0
  let c0_152 : Index := 0#32
  let c1792 : Index := 1792#32
  ![v445.toNat, 0, 1792]
def k0_off17 (i : grid0.Coords) : Fin 3 → Nat :=
  let arg0 : BitVec 32 := BitVec.ofNat 32 (i 0).val
  let c2_i32 : BitVec 32 := 2#32
  let v0 : BitVec 32 := Scalar.remsi arg0 c2_i32
  let v468 : Index := Scalar.indexCast v0
  let c0_161 : Index := 0#32
  let c1920 : Index := 1920#32
  ![v468.toNat, 0, 1920]
def k0_off18 (i : grid0.Coords) : Fin 3 → Nat :=
  let arg0 : BitVec 32 := BitVec.ofNat 32 (i 0).val
  let c2_i32 : BitVec 32 := 2#32
  let v0 : BitVec 32 := Scalar.remsi arg0 c2_i32
  let v491 : Index := Scalar.indexCast v0
  let c0_170 : Index := 0#32
  let c2048 : Index := 2048#32
  ![v491.toNat, 0, 2048]
def k0_off19 (i : grid0.Coords) : Fin 3 → Nat :=
  let arg0 : BitVec 32 := BitVec.ofNat 32 (i 0).val
  let c2_i32 : BitVec 32 := 2#32
  let v0 : BitVec 32 := Scalar.remsi arg0 c2_i32
  let v514 : Index := Scalar.indexCast v0
  let c0_179 : Index := 0#32
  let c2176 : Index := 2176#32
  ![v514.toNat, 0, 2176]
def k0_off20 (i : grid0.Coords) : Fin 3 → Nat :=
  let arg0 : BitVec 32 := BitVec.ofNat 32 (i 0).val
  let c2_i32 : BitVec 32 := 2#32
  let v0 : BitVec 32 := Scalar.remsi arg0 c2_i32
  let v537 : Index := Scalar.indexCast v0
  let c0_188 : Index := 0#32
  let c2304 : Index := 2304#32
  ![v537.toNat, 0, 2304]
def k0_off21 (i : grid0.Coords) : Fin 3 → Nat :=
  let arg0 : BitVec 32 := BitVec.ofNat 32 (i 0).val
  let c2_i32 : BitVec 32 := 2#32
  let v0 : BitVec 32 := Scalar.remsi arg0 c2_i32
  let v560 : Index := Scalar.indexCast v0
  let c0_197 : Index := 0#32
  let c2432 : Index := 2432#32
  ![v560.toNat, 0, 2432]
def k0_off22 (i : grid0.Coords) : Fin 3 → Nat :=
  let arg0 : BitVec 32 := BitVec.ofNat 32 (i 0).val
  let c2_i32 : BitVec 32 := 2#32
  let v0 : BitVec 32 := Scalar.remsi arg0 c2_i32
  let v583 : Index := Scalar.indexCast v0
  let c0_206 : Index := 0#32
  let c2560 : Index := 2560#32
  ![v583.toNat, 0, 2560]
def k0_off23 (i : grid0.Coords) : Fin 3 → Nat :=
  let arg0 : BitVec 32 := BitVec.ofNat 32 (i 0).val
  let c2_i32 : BitVec 32 := 2#32
  let v0 : BitVec 32 := Scalar.remsi arg0 c2_i32
  let v606 : Index := Scalar.indexCast v0
  let c0_215 : Index := 0#32
  let c2688 : Index := 2688#32
  ![v606.toNat, 0, 2688]
def k0_off24 (i : grid0.Coords) : Fin 3 → Nat :=
  let arg0 : BitVec 32 := BitVec.ofNat 32 (i 0).val
  let c2_i32 : BitVec 32 := 2#32
  let v0 : BitVec 32 := Scalar.remsi arg0 c2_i32
  let v629 : Index := Scalar.indexCast v0
  let c0_224 : Index := 0#32
  let c2816 : Index := 2816#32
  ![v629.toNat, 0, 2816]
def k0_off25 (i : grid0.Coords) : Fin 3 → Nat :=
  let arg0 : BitVec 32 := BitVec.ofNat 32 (i 0).val
  let c2_i32 : BitVec 32 := 2#32
  let v0 : BitVec 32 := Scalar.remsi arg0 c2_i32
  let v652 : Index := Scalar.indexCast v0
  let c0_233 : Index := 0#32
  let c2944 : Index := 2944#32
  ![v652.toNat, 0, 2944]
def k0_off26 (i : grid0.Coords) : Fin 3 → Nat :=
  let arg0 : BitVec 32 := BitVec.ofNat 32 (i 0).val
  let c2_i32 : BitVec 32 := 2#32
  let v0 : BitVec 32 := Scalar.remsi arg0 c2_i32
  let v675 : Index := Scalar.indexCast v0
  let c0_242 : Index := 0#32
  let c3072 : Index := 3072#32
  ![v675.toNat, 0, 3072]
def k0_off27 (i : grid0.Coords) : Fin 3 → Nat :=
  let arg0 : BitVec 32 := BitVec.ofNat 32 (i 0).val
  let c2_i32 : BitVec 32 := 2#32
  let v0 : BitVec 32 := Scalar.remsi arg0 c2_i32
  let v698 : Index := Scalar.indexCast v0
  let c0_251 : Index := 0#32
  let c3200 : Index := 3200#32
  ![v698.toNat, 0, 3200]
def k0_off28 (i : grid0.Coords) : Fin 3 → Nat :=
  let arg0 : BitVec 32 := BitVec.ofNat 32 (i 0).val
  let c2_i32 : BitVec 32 := 2#32
  let v0 : BitVec 32 := Scalar.remsi arg0 c2_i32
  let v721 : Index := Scalar.indexCast v0
  let c0_260 : Index := 0#32
  let c3328 : Index := 3328#32
  ![v721.toNat, 0, 3328]
def k0_off29 (i : grid0.Coords) : Fin 3 → Nat :=
  let arg0 : BitVec 32 := BitVec.ofNat 32 (i 0).val
  let c2_i32 : BitVec 32 := 2#32
  let v0 : BitVec 32 := Scalar.remsi arg0 c2_i32
  let v744 : Index := Scalar.indexCast v0
  let c0_269 : Index := 0#32
  let c3456 : Index := 3456#32
  ![v744.toNat, 0, 3456]
def k0_off30 (i : grid0.Coords) : Fin 3 → Nat :=
  let arg0 : BitVec 32 := BitVec.ofNat 32 (i 0).val
  let c2_i32 : BitVec 32 := 2#32
  let v0 : BitVec 32 := Scalar.remsi arg0 c2_i32
  let v767 : Index := Scalar.indexCast v0
  let c0_278 : Index := 0#32
  let c3584 : Index := 3584#32
  ![v767.toNat, 0, 3584]
def k0_off31 (i : grid0.Coords) : Fin 3 → Nat :=
  let arg0 : BitVec 32 := BitVec.ofNat 32 (i 0).val
  let c2_i32 : BitVec 32 := 2#32
  let v0 : BitVec 32 := Scalar.remsi arg0 c2_i32
  let v790 : Index := Scalar.indexCast v0
  let c0_287 : Index := 0#32
  let c3712 : Index := 3712#32
  ![v790.toNat, 0, 3712]
def k0_off32 (i : grid0.Coords) : Fin 3 → Nat :=
  let arg0 : BitVec 32 := BitVec.ofNat 32 (i 0).val
  let c2_i32 : BitVec 32 := 2#32
  let v0 : BitVec 32 := Scalar.remsi arg0 c2_i32
  let v813 : Index := Scalar.indexCast v0
  let c0_296 : Index := 0#32
  let c3840 : Index := 3840#32
  ![v813.toNat, 0, 3840]
def k0_off33 (i : grid0.Coords) : Fin 3 → Nat :=
  let arg0 : BitVec 32 := BitVec.ofNat 32 (i 0).val
  let c2_i32 : BitVec 32 := 2#32
  let v0 : BitVec 32 := Scalar.remsi arg0 c2_i32
  let v836 : Index := Scalar.indexCast v0
  let c0_305 : Index := 0#32
  let c3968 : Index := 3968#32
  ![v836.toNat, 0, 3968]
def k0_off34 (i : grid0.Coords) : Fin 3 → Nat :=
  let arg0 : BitVec 32 := BitVec.ofNat 32 (i 0).val
  let c2_i32 : BitVec 32 := 2#32
  let v0 : BitVec 32 := Scalar.remsi arg0 c2_i32
  let v859 : Index := Scalar.indexCast v0
  let c0_314 : Index := 0#32
  let c4096 : Index := 4096#32
  ![v859.toNat, 0, 4096]
def k0_off35 (i : grid0.Coords) : Fin 3 → Nat :=
  let arg0 : BitVec 32 := BitVec.ofNat 32 (i 0).val
  let c2_i32 : BitVec 32 := 2#32
  let v0 : BitVec 32 := Scalar.remsi arg0 c2_i32
  let v882 : Index := Scalar.indexCast v0
  let c0_323 : Index := 0#32
  let c4224 : Index := 4224#32
  ![v882.toNat, 0, 4224]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v905 : Index := Scalar.indexCast v0
  let c0_332 : Index := 0#32
  let c4352 : Index := 4352#32
  ![v905.toNat, 0, 4352]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v928 : Index := Scalar.indexCast v0
  let c0_341 : Index := 0#32
  let c4480 : Index := 4480#32
  ![v928.toNat, 0, 4480]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v951 : Index := Scalar.indexCast v0
  let c0_350 : Index := 0#32
  let c4608 : Index := 4608#32
  ![v951.toNat, 0, 4608]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v974 : Index := Scalar.indexCast v0
  let c0_359 : Index := 0#32
  let c4736 : Index := 4736#32
  ![v974.toNat, 0, 4736]
def k0_off40 (i : grid0.Coords) : Fin 3 → Nat :=
  let arg0 : BitVec 32 := BitVec.ofNat 32 (i 0).val
  let c2_i32 : BitVec 32 := 2#32
  let v0 : BitVec 32 := Scalar.remsi arg0 c2_i32
  let v997 : Index := Scalar.indexCast v0
  let c0_368 : Index := 0#32
  let c4864 : Index := 4864#32
  ![v997.toNat, 0, 4864]
def k0_off41 (i : grid0.Coords) : Fin 3 → Nat :=
  let arg0 : BitVec 32 := BitVec.ofNat 32 (i 0).val
  let c2_i32 : BitVec 32 := 2#32
  let v0 : BitVec 32 := Scalar.remsi arg0 c2_i32
  let v1020 : Index := Scalar.indexCast v0
  let c0_377 : Index := 0#32
  let c4992 : Index := 4992#32
  ![v1020.toNat, 0, 4992]
def k0_off42 (i : grid0.Coords) : Fin 3 → Nat :=
  let arg0 : BitVec 32 := BitVec.ofNat 32 (i 0).val
  let c2_i32 : BitVec 32 := 2#32
  let v0 : BitVec 32 := Scalar.remsi arg0 c2_i32
  let v1043 : Index := Scalar.indexCast v0
  let c0_386 : Index := 0#32
  let c5120 : Index := 5120#32
  ![v1043.toNat, 0, 5120]
def k0_off43 (i : grid0.Coords) : Fin 3 → Nat :=
  let arg0 : BitVec 32 := BitVec.ofNat 32 (i 0).val
  let c2_i32 : BitVec 32 := 2#32
  let v0 : BitVec 32 := Scalar.remsi arg0 c2_i32
  let v1066 : Index := Scalar.indexCast v0
  let c0_395 : Index := 0#32
  let c5248 : Index := 5248#32
  ![v1066.toNat, 0, 5248]
def k0_off44 (i : grid0.Coords) : Fin 3 → Nat :=
  let arg0 : BitVec 32 := BitVec.ofNat 32 (i 0).val
  let c2_i32 : BitVec 32 := 2#32
  let v0 : BitVec 32 := Scalar.remsi arg0 c2_i32
  let v1089 : Index := Scalar.indexCast v0
  let c0_404 : Index := 0#32
  let c5376 : Index := 5376#32
  ![v1089.toNat, 0, 5376]
def k0_off45 (i : grid0.Coords) : Fin 3 → Nat :=
  let arg0 : BitVec 32 := BitVec.ofNat 32 (i 0).val
  let c2_i32 : BitVec 32 := 2#32
  let v0 : BitVec 32 := Scalar.remsi arg0 c2_i32
  let v1112 : Index := Scalar.indexCast v0
  let c0_413 : Index := 0#32
  let c5504 : Index := 5504#32
  ![v1112.toNat, 0, 5504]
def k0_off46 (i : grid0.Coords) : Fin 3 → Nat :=
  let arg0 : BitVec 32 := BitVec.ofNat 32 (i 0).val
  let c2_i32 : BitVec 32 := 2#32
  let v0 : BitVec 32 := Scalar.remsi arg0 c2_i32
  let v1135 : Index := Scalar.indexCast v0
  let c0_422 : Index := 0#32
  let c5632 : Index := 5632#32
  ![v1135.toNat, 0, 5632]
def k0_off47 (i : grid0.Coords) : Fin 3 → Nat :=
  let arg0 : BitVec 32 := BitVec.ofNat 32 (i 0).val
  let c2_i32 : BitVec 32 := 2#32
  let v0 : BitVec 32 := Scalar.remsi arg0 c2_i32
  let v1158 : Index := Scalar.indexCast v0
  let c0_431 : Index := 0#32
  let c5760 : Index := 5760#32
  ![v1158.toNat, 0, 5760]
def k0_off48 (i : grid0.Coords) : Fin 3 → Nat :=
  let arg0 : BitVec 32 := BitVec.ofNat 32 (i 0).val
  let c2_i32 : BitVec 32 := 2#32
  let v0 : BitVec 32 := Scalar.remsi arg0 c2_i32
  let v1181 : Index := Scalar.indexCast v0
  let c0_440 : Index := 0#32
  let c5888 : Index := 5888#32
  ![v1181.toNat, 0, 5888]
def k0_off49 (i : grid0.Coords) : Fin 3 → Nat :=
  let arg0 : BitVec 32 := BitVec.ofNat 32 (i 0).val
  let c2_i32 : BitVec 32 := 2#32
  let v0 : BitVec 32 := Scalar.remsi arg0 c2_i32
  let v1204 : Index := Scalar.indexCast v0
  let c0_449 : Index := 0#32
  let c6016 : Index := 6016#32
  ![v1204.toNat, 0, 6016]
def k0_off50 (i : grid0.Coords) : Fin 3 → Nat :=
  let arg0 : BitVec 32 := BitVec.ofNat 32 (i 0).val
  let c2_i32 : BitVec 32 := 2#32
  let v0 : BitVec 32 := Scalar.remsi arg0 c2_i32
  let v1227 : Index := Scalar.indexCast v0
  let c0_458 : Index := 0#32
  let c6144 : Index := 6144#32
  ![v1227.toNat, 0, 6144]
def k0_off51 (i : grid0.Coords) : Fin 3 → Nat :=
  let arg0 : BitVec 32 := BitVec.ofNat 32 (i 0).val
  let c2_i32 : BitVec 32 := 2#32
  let v0 : BitVec 32 := Scalar.remsi arg0 c2_i32
  let v1250 : Index := Scalar.indexCast v0
  let c0_467 : Index := 0#32
  let c6272 : Index := 6272#32
  ![v1250.toNat, 0, 6272]
def k0_off52 (i : grid0.Coords) : Fin 3 → Nat :=
  let arg0 : BitVec 32 := BitVec.ofNat 32 (i 0).val
  let c2_i32 : BitVec 32 := 2#32
  let v0 : BitVec 32 := Scalar.remsi arg0 c2_i32
  let v1273 : Index := Scalar.indexCast v0
  let c0_476 : Index := 0#32
  let c6400 : Index := 6400#32
  ![v1273.toNat, 0, 6400]
def k0_off53 (i : grid0.Coords) : Fin 3 → Nat :=
  let arg0 : BitVec 32 := BitVec.ofNat 32 (i 0).val
  let c2_i32 : BitVec 32 := 2#32
  let v0 : BitVec 32 := Scalar.remsi arg0 c2_i32
  let v1296 : Index := Scalar.indexCast v0
  let c0_485 : Index := 0#32
  let c6528 : Index := 6528#32
  ![v1296.toNat, 0, 6528]
def k0_off54 (i : grid0.Coords) : Fin 3 → Nat :=
  let arg0 : BitVec 32 := BitVec.ofNat 32 (i 0).val
  let c2_i32 : BitVec 32 := 2#32
  let v0 : BitVec 32 := Scalar.remsi arg0 c2_i32
  let v1319 : Index := Scalar.indexCast v0
  let c0_494 : Index := 0#32
  let c6656 : Index := 6656#32
  ![v1319.toNat, 0, 6656]
def k0_off55 (i : grid0.Coords) : Fin 3 → Nat :=
  let arg0 : BitVec 32 := BitVec.ofNat 32 (i 0).val
  let c2_i32 : BitVec 32 := 2#32
  let v0 : BitVec 32 := Scalar.remsi arg0 c2_i32
  let v1342 : Index := Scalar.indexCast v0
  let c0_503 : Index := 0#32
  let c6784 : Index := 6784#32
  ![v1342.toNat, 0, 6784]
def k0_off56 (i : grid0.Coords) : Fin 3 → Nat :=
  let arg0 : BitVec 32 := BitVec.ofNat 32 (i 0).val
  let c2_i32 : BitVec 32 := 2#32
  let v0 : BitVec 32 := Scalar.remsi arg0 c2_i32
  let v1365 : Index := Scalar.indexCast v0
  let c0_512 : Index := 0#32
  let c6912 : Index := 6912#32
  ![v1365.toNat, 0, 6912]
def k0_off57 (i : grid0.Coords) : Fin 3 → Nat :=
  let arg0 : BitVec 32 := BitVec.ofNat 32 (i 0).val
  let c2_i32 : BitVec 32 := 2#32
  let v0 : BitVec 32 := Scalar.remsi arg0 c2_i32
  let v1388 : Index := Scalar.indexCast v0
  let c0_521 : Index := 0#32
  let c7040 : Index := 7040#32
  ![v1388.toNat, 0, 7040]
def k0_off58 (i : grid0.Coords) : Fin 3 → Nat :=
  let arg0 : BitVec 32 := BitVec.ofNat 32 (i 0).val
  let c2_i32 : BitVec 32 := 2#32
  let v0 : BitVec 32 := Scalar.remsi arg0 c2_i32
  let v1411 : Index := Scalar.indexCast v0
  let c0_530 : Index := 0#32
  let c7168 : Index := 7168#32
  ![v1411.toNat, 0, 7168]
def k0_off59 (i : grid0.Coords) : Fin 3 → Nat :=
  let arg0 : BitVec 32 := BitVec.ofNat 32 (i 0).val
  let c2_i32 : BitVec 32 := 2#32
  let v0 : BitVec 32 := Scalar.remsi arg0 c2_i32
  let v1434 : Index := Scalar.indexCast v0
  let c0_539 : Index := 0#32
  let c7296 : Index := 7296#32
  ![v1434.toNat, 0, 7296]
def k0_off60 (i : grid0.Coords) : Fin 3 → Nat :=
  let arg0 : BitVec 32 := BitVec.ofNat 32 (i 0).val
  let c2_i32 : BitVec 32 := 2#32
  let v0 : BitVec 32 := Scalar.remsi arg0 c2_i32
  let v1457 : Index := Scalar.indexCast v0
  let c0_548 : Index := 0#32
  let c7424 : Index := 7424#32
  ![v1457.toNat, 0, 7424]
def k0_off61 (i : grid0.Coords) : Fin 3 → Nat :=
  let arg0 : BitVec 32 := BitVec.ofNat 32 (i 0).val
  let c2_i32 : BitVec 32 := 2#32
  let v0 : BitVec 32 := Scalar.remsi arg0 c2_i32
  let v1480 : Index := Scalar.indexCast v0
  let c0_557 : Index := 0#32
  let c7552 : Index := 7552#32
  ![v1480.toNat, 0, 7552]
def k0_off62 (i : grid0.Coords) : Fin 3 → Nat :=
  let arg0 : BitVec 32 := BitVec.ofNat 32 (i 0).val
  let c2_i32 : BitVec 32 := 2#32
  let v0 : BitVec 32 := Scalar.remsi arg0 c2_i32
  let v1503 : Index := Scalar.indexCast v0
  let c0_566 : Index := 0#32
  let c7680 : Index := 7680#32
  ![v1503.toNat, 0, 7680]
def k0_off63 (i : grid0.Coords) : Fin 3 → Nat :=
  let arg0 : BitVec 32 := BitVec.ofNat 32 (i 0).val
  let c2_i32 : BitVec 32 := 2#32
  let v0 : BitVec 32 := Scalar.remsi arg0 c2_i32
  let v1526 : Index := Scalar.indexCast v0
  let c0_575 : Index := 0#32
  let c7808 : Index := 7808#32
  ![v1526.toNat, 0, 7808]
def k0_off64 (i : grid0.Coords) : Fin 3 → Nat :=
  let arg0 : BitVec 32 := BitVec.ofNat 32 (i 0).val
  let c2_i32 : BitVec 32 := 2#32
  let v0 : BitVec 32 := Scalar.remsi arg0 c2_i32
  let v1549 : Index := Scalar.indexCast v0
  let c0_584 : Index := 0#32
  let c7936 : Index := 7936#32
  ![v1549.toNat, 0, 7936]
def k0_off65 (i : grid0.Coords) : Fin 3 → Nat :=
  let arg0 : BitVec 32 := BitVec.ofNat 32 (i 0).val
  let c2_i32 : BitVec 32 := 2#32
  let v0 : BitVec 32 := Scalar.remsi arg0 c2_i32
  let v1572 : Index := Scalar.indexCast v0
  let c0_593 : Index := 0#32
  let c8064 : Index := 8064#32
  ![v1572.toNat, 0, 8064]
def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2048x128x128 : Shape := ⟨3, ![2048, 128, 128]⟩
abbrev S2048x128 : Shape := ⟨2, ![2048, 128]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S2048x1x128 : Shape := ⟨3, ![2048, 1, 128]⟩
abbrev S_ : Shape := ⟨0, ![]⟩
abbrev S2048x128x128x1 : Shape := ⟨4, ![2048, 128, 128, 1]⟩
abbrev S1x1x1x1 : Shape := ⟨4, ![1, 1, 1, 1]⟩
abbrev S2048 : Shape := ⟨1, ![2048]⟩
abbrev S2048x1 : Shape := ⟨2, ![2048, 1]⟩
abbrev S2048x128x1 : Shape := ⟨3, ![2048, 128, 1]⟩
abbrev S2048x256 : Shape := ⟨2, ![2048, 256]⟩
abbrev S2048x64 : Shape := ⟨2, ![2048, 64]⟩
abbrev S1x64 : Shape := ⟨2, ![1, 64]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S2048x128x128, .f32⟩
  | .hbm, ⟨1, _⟩ => ⟨S2048x128, .i32⟩
  | .hbm, ⟨2, _⟩ => ⟨S2048x128, .i1⟩
  | .hbm, ⟨3, _⟩ => ⟨S128x128, .f32⟩
  | .hbm, ⟨4, _⟩ => ⟨S128, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S2048x1x128, .i32⟩
  | .hbm, ⟨10, _⟩ => ⟨S2048x128x128, .i32⟩
  | .hbm, ⟨11, _⟩ => ⟨S_, .i32⟩
  | .hbm, ⟨12, _⟩ => ⟨S2048x128x128, .i32⟩
  | .hbm, ⟨13, _⟩ => ⟨S2048x128x128, .i1⟩
  | .hbm, ⟨14, _⟩ => ⟨S_, .i32⟩
  | .hbm, ⟨15, _⟩ => ⟨S2048x128x128, .i32⟩
  | .hbm, ⟨16, _⟩ => ⟨S2048x128x128, .i32⟩
  | .hbm, ⟨17, _⟩ => ⟨S2048x128x128, .i32⟩
  | .hbm, ⟨18, _⟩ => ⟨S2048x128x128x1, .i32⟩
  | .hbm, ⟨19, _⟩ => ⟨S1, .i32⟩
  | .hbm, ⟨20, _⟩ => ⟨S_, .i32⟩
  | .hbm, ⟨21, _⟩ => ⟨S2048x128x128x1, .i32⟩
  | .hbm, ⟨22, _⟩ => ⟨S2048x128x128x1, .i1⟩
  | .hbm, ⟨23, _⟩ => ⟨S1x1x1x1, .i32⟩
  | .hbm, ⟨24, _⟩ => ⟨S2048x128x128x1, .i32⟩
  | .hbm, ⟨25, _⟩ => ⟨S2048x128x128x1, .i1⟩
  | .hbm, ⟨26, _⟩ => ⟨S2048x128x128x1, .i1⟩
  | .hbm, ⟨27, _⟩ => ⟨S_, .i1⟩
  | .hbm, ⟨28, _⟩ => ⟨S2048x128x128, .i1⟩
  | .hbm, ⟨29, _⟩ => ⟨S2048x128x128, .f32⟩
  | .hbm, ⟨30, _⟩ => ⟨S_, .f32⟩
  | .hbm, ⟨31, _⟩ => ⟨S2048x128x128, .f32⟩
  | .hbm, ⟨32, _⟩ => ⟨S2048x128x128, .f32⟩
  | .hbm, ⟨33, _⟩ => ⟨S2048x128x128, .f32⟩
  | .hbm, ⟨34, _⟩ => ⟨S2048x128x128, .f32⟩
  | .hbm, ⟨35, _⟩ => ⟨S2048x128x128, .f32⟩
  | .hbm, ⟨36, _⟩ => ⟨S_, .f32⟩
  | .hbm, ⟨37, _⟩ => ⟨S2048x128x128, .f32⟩
  | .hbm, ⟨38, _⟩ => ⟨S2048x128x128, .f32⟩
  | .hbm, ⟨39, _⟩ => ⟨S2048x128x128, .f32⟩
  | .hbm, ⟨40, _⟩ => ⟨S2048x128, .i1⟩
  | .hbm, ⟨41, _⟩ => ⟨S2048x128, .f32⟩
  | .hbm, ⟨42, _⟩ => ⟨S_, .f32⟩
  | .hbm, ⟨43, _⟩ => ⟨S_, .f32⟩
  | .hbm, ⟨44, _⟩ => ⟨S2048x128, .f32⟩
  | .hbm, ⟨45, _⟩ => ⟨S2048x128, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S_, .f32⟩
  | .hbm, ⟨53, _⟩ => ⟨S_, .f32⟩
  | .hbm, ⟨54, _⟩ => ⟨S2048x128, .f32⟩
  | .hbm, ⟨55, _⟩ => ⟨S2048x128, .f32⟩
  | .hbm, ⟨56, _⟩ => ⟨S_, .f32⟩
  | .hbm, ⟨57, _⟩ => ⟨S2048, .f32⟩
  | .hbm, ⟨58, _⟩ => ⟨S2048x128x1, .f32⟩
  | .hbm, ⟨59, _⟩ => ⟨S2048x128x128, .f32⟩
  | .hbm, ⟨60, _⟩ => ⟨S2048x128x128, .f32⟩
  | .hbm, ⟨61, _⟩ => ⟨S_, .f32⟩
  | .hbm, ⟨62, _⟩ => ⟨S2048x128, .f32⟩
  | .hbm, ⟨63, _⟩ => ⟨S2048x1, .f32⟩
  | .hbm, ⟨64, _⟩ => ⟨S2048x128, .f32⟩
  | .hbm, ⟨65, _⟩ => ⟨S2048x128, .f32⟩
  | .hbm, ⟨66, _⟩ => ⟨S2048x1x128, .f32⟩
  | .hbm, ⟨67, _⟩ => ⟨S2048x128, .f32⟩
  | .hbm, ⟨68, _⟩ => ⟨S2048x256, .f32⟩
  | .hbm, ⟨69, _⟩ => ⟨S2048x64, .f32⟩
  | .hbm, ⟨70, _⟩ => ⟨S1x64, .f32⟩
  | .hbm, ⟨71, _⟩ => ⟨S2048x64, .f32⟩
  | .hbm, ⟨72, _⟩ => ⟨S2048x64, .f32⟩
  | .hbm, ⟨73, _⟩ => ⟨S_, .f32⟩
  | .hbm, ⟨74, _⟩ => ⟨S2048x64, .f32⟩
  | .hbm, ⟨75, _⟩ => ⟨S2048x64, .f32⟩
  | .hbm, ⟨76, _⟩ => ⟨S2048x1, .f32⟩
  | .hbm, ⟨77, _⟩ => ⟨S1x1, .f32⟩
  | .hbm, ⟨78, _⟩ => ⟨S2048x1, .f32⟩
  | .hbm, ⟨79, _⟩ => ⟨S2048x1, .f32⟩
  | _, _ => ⟨S2048x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_call1_cst : Ref sig .tc := ⟨.hbm, 36, rfl⟩
abbrev main_call1_v0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_v10 : Ref sig .tc := ⟨.hbm, 45, rfl⟩
abbrev main_cst_0 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_1 : Ref sig .tc := ⟨.hbm, 52, rfl⟩
abbrev main_call3_v0 : Ref sig .tc := ⟨.hbm, 53, rfl⟩
abbrev main_call3_v1 : Ref sig .tc := ⟨.hbm, 54, rfl⟩
abbrev main_v16 : Ref sig .tc := ⟨.hbm, 55, rfl⟩
abbrev main_cst_2 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_3 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_call4_cst : Ref sig .tc := ⟨.hbm, 73, rfl⟩
abbrev main_call4_v0 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩

abbrev nD : Nat := 1
abbrev τ : Topo := Topo.v7x

variable {F : FTy → Type} [FloatOps F]
-- ==== Proof.SameProgram.lean ====
/-
  The two kernel modules hold one program.

  Nothing in the kernel is rounded away or replaced for the idealised print, so the two prints differ in their names only:
  the bodies, the pipelines and the host program are equal, over any float type.
-/
module

public import proofs.«01_k».proof.Proof.Gen.KernelIdeal
public import proofs.«01_k».proof.Proof.Gen.Kernel

@[expose] public section

noncomputable section

namespace Cert.Own

open Idealize.ShloMosaic

variable {F : FTy → Type} [FloatOps F] [Cert.Kernel.Facts] [Cert.KernelIdeal.Facts]

set_option maxRecDepth 65536
set_option maxHeartbeats 0

/-- The kernels' bodies. -/
theorem same_defs₀ : Cert.Kernel.defs₀ (F := F) = Cert.KernelIdeal.defs₀ (F := F) := by
  funext pr ℓ a
  match pr, ℓ, a with
  | .tc, ⟨0, _⟩, a => rfl
  | .tc, ⟨1, _⟩, a => rfl
  | .scScalar _, _, _ => rfl
  | .scVector _ _, _, _ => rfl

/-- The two pipelines and their bodies. -/
theorem same_defs : Cert.Kernel.defs (F := F) = Cert.KernelIdeal.defs (F := F) := by
  funext pr ℓ a
  match pr, ℓ, a with
  | pr, .inl ℓ, a =>
    show Pipeline.liftProg (Cert.Kernel.defs₀ (F := F) pr ℓ a) = Pipeline.liftProg (Cert.KernelIdeal.defs₀ (F := F) pr ℓ a)
    rw [same_defs₀]; rfl
  | .tc, .inr (.entry p), a =>
    revert a
    match p with
    | ⟨0, _⟩ => exact fun _ => rfl
    | ⟨1, _⟩ => exact fun _ => rfl
  | .tc, .inr (.pipe p), a =>
    revert a
    match p with
    | ⟨0, _⟩ => exact fun _ => rfl
    | ⟨1, _⟩ => exact fun _ => rfl
  | .scScalar _, .inr (.entry _), a => rfl
  | .scScalar _, .inr (.pipe _), a => rfl
  | .scVector _ _, .inr (.entry _), a => rfl
  | .scVector _ _, .inr (.pipe _), a => rfl

/-- The host program. -/
theorem same_main : Cert.Kernel.main (F := F) = Cert.KernelIdeal.main (F := F) := rfl

end Cert.Own

end
-- ==== Proof.Point0.lean ====
/-
  What one grid point of the first kernel computes.

  The kernel works on 64 trees at a time and runs one point behind itself: at a point it reads the embeddings the
  previous point left in one half of a scratch buffer and makes the output block from them, then writes this point's
  embeddings into the other half.  `point0` runs the body once on unnamed buffers and says just that: the output block
  is `pooled` of the half it reads, the half it writes is `embBuf` of the point's trees and indices.
-/
module

public import proofs.«01_k».proof.Proof.Gen.KernelIdeal
public import proofs.«01_k».proof.Proof.Gen.KernelIdeal.Skeleton
public import Idealize.ShloMosaic.Lib.Tactic
public import Idealize.ShloMosaic.Lib.VecWindow
public import Idealize.ShloMosaic.Lib.ValueIdxCore
public import Idealize.ShloMosaic.Lib.Pipeline.FrameBody

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The resources: the rounds of the pipelines' cells; the kernels have no cell of their own. -/
abbrev UR (nD : Nat) (τ : Topo) : Type := URounds (GSem nD τ sig) Unit

local notation "𝕄" => MT nD τ sig Unit (Elt F) ℕ (UR nD τ) ℕ

/-- Contents of the buffer a memref lies in, on core `c`. -/
abbrev Bf (c : Dev nD) {sp : Space} {S : Shape} {e : EltTy} (M : Memref sig .tc sp S e) : Type := Buf (Elt F) (M.view.loc (c : Thread nD τ))
/-- That buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-! ## The values -/

/-- Tree `p` of a block of 64 trees. -/
theorem treeInb (p : Fin 64) : ∀ a, (![p.val, 0, 0] : Fin 3 → ℕ) a + S1x128x128.size a ≤ S64x128x128.size a := by
  revert p; decide
/-- Row `p` of a block of 64 index rows. -/
theorem rowInb (p : Fin 64) : ∀ a, (![p.val, 0] : Fin 2 → ℕ) a + S1x128.size a ≤ S64x128.size a := by
  revert p; decide

/-- The embeddings of one tree: every node's features with its neighbour's added, through the embedding matrix, cut
    off below at zero. -/
abbrev treeEmb (W : Vec F S128x128 .bf16) (T : Vec F S1x128x128 .f32) (I : Vec F S1x128 .i32) : FVec F S1x128x128 .bf16 := k0_pay50 W T I

/-- The embeddings of a block's 64 trees, side by side: tree `p`'s nodes are columns `128 p … 128 p + 127`. -/
def embBuf (W : Vec F S128x128 .bf16) (X : Vec F S64x128x128 .f32) (I : Vec F S64x128 .i32) : S128x8192.Idx → F .bf16 := fun j =>
  let p : Fin 64 := ⟨(j 1).val / 128, by have : (j 1).val < 8192 := (j 1).isLt; omega⟩
  treeEmb W (View.ld X (Rect.unit ![p.val, 0, 0] S1x128x128.size (treeInb p))) (View.ld I (Rect.unit ![p.val, 0] S1x128.size (rowInb p)))
    (ix3 0 (j 0) ⟨(j 1).val % 128, Nat.mod_lt _ (by omega)⟩)

/-- The half of the scratch buffer at slot `s`, as the load of it gives it. -/
def half (B : S2x128x8192.Idx → F .bf16) (s : Fin 2) : Vec F S1x128x8192 .bf16 := fun j => B (ix3 s (j 1) (j 2))

/-- The output block: the gated, masked softmax pooling of the embeddings `v3` and node 1's own embedding, from the
    gate `v5`, the validity `v73`, the block mask `v91` and the node-1 selector `v94`. -/
def pooled (v3 : Vec F S1x128x8192 .bf16) (v5 : Vec F S1x128 .bf16) (v73 : Vec F S64x128 .f32) (v91 : Vec F S64x8192 .bf16) (v94 : Vec F S64x8192 .bf16) :
    FVec F S64x256 .f32 :=
  k0_pay48 (k0_pay2 v3) (k0_pay3 v3 v5) (k0_pay4 v3 v5) (k0_pay5 v3 v5) (k0_pay6 v3 v5) (k0_pay7 v3 v5) (k0_pay8 v3 v5) (k0_pay9 v3 v5) (k0_pay10 v3 v5) (k0_pay11 v3 v5) (k0_pay12 v3 v5) (k0_pay13 v3 v5) (k0_pay14 v3 v5) (k0_pay15 v3 v5) (k0_pay16 v3 v5) (k0_pay17 v3 v5) (k0_pay18 v3 v5) (k0_pay19 v3 v5) (k0_pay20 v3 v5) (k0_pay21 v3 v5) (k0_pay22 v3 v5) (k0_pay23 v3 v5) (k0_pay24 v3 v5) (k0_pay25 v3 v5) (k0_pay26 v3 v5) (k0_pay27 v3 v5) (k0_pay28 v3 v5) (k0_pay29 v3 v5) (k0_pay30 v3 v5) (k0_pay31 v3 v5) (k0_pay32 v3 v5) (k0_pay33 v3 v5) (k0_pay34 v3 v5) (k0_pay35 v3 v5) (k0_pay36 v3 v5) (k0_pay37 v3 v5) (k0_pay38 v3 v5) (k0_pay39 v3 v5) (k0_pay40 v3 v5) (k0_pay41 v3 v5) (k0_pay42 v3 v5) (k0_pay43 v3 v5) (k0_pay44 v3 v5) (k0_pay45 v3 v5) (k0_pay46 v3 v5) (k0_pay47 v3 v5)
    v73 v91 v94

/-! ## The scratch buffer's 64 writes -/

/-- Where the write of tree `p` starts. -/
def offTab : Fin 64 → grid0.Coords → Fin 3 → ℕ := ![k0_off2, k0_off3, k0_off4, k0_off5, k0_off6, k0_off7, k0_off8, k0_off9, k0_off10, k0_off11, k0_off12, k0_off13, k0_off14, k0_off15, k0_off16, k0_off17, k0_off18, k0_off19, k0_off20, k0_off21, k0_off22, k0_off23, k0_off24, k0_off25, k0_off26, k0_off27, k0_off28, k0_off29, k0_off30, k0_off31, k0_off32, k0_off33, k0_off34, k0_off35, k0_off36, k0_off37, k0_off38, k0_off39, k0_off40, k0_off41, k0_off42, k0_off43, k0_off44, k0_off45, k0_off46, k0_off47, k0_off48, k0_off49, k0_off50, k0_off51, k0_off52, k0_off53, k0_off54, k0_off55, k0_off56, k0_off57, k0_off58, k0_off59, k0_off60, k0_off61, k0_off62, k0_off63, k0_off64, k0_off65]

theorem offTab_eq : ∀ (p : Fin 64) (i : grid0.Coords), offTab p i = ![(i 0).val % 2, 0, 128 * p.val] := by decide +kernel

theorem offTab_inb (p : Fin 64) (i : grid0.Coords) : ∀ a, offTab p i a + S1x128x128.size a ≤ S2x128x8192.size a := by
  intro a
  rw [offTab_eq]
  fin_cases a
  · show (i 0).val % 2 + 1 ≤ 2; omega
  · show 0 + 128 ≤ 128; omega
  · show 128 * p.val + 128 ≤ 8192; omega

/-- The write of tree `p`. -/
def piece (W : Vec F S128x128 .bf16) (X : Vec F S64x128x128 .f32) (I : Vec F S64x128 .i32) (i : grid0.Coords) (p : Fin 64) :
    View.Piece (Elt F) S2x128x8192 .bf16 :=
  ⟨Rect.unit (offTab p i) S1x128x128.size (offTab_inb p i),
    treeEmb W (View.ld X (Rect.unit ![p.val, 0, 0] S1x128x128.size (treeInb p))) (View.ld I (Rect.unit ![p.val, 0] S1x128.size (rowInb p)))⟩

/-- The 64 writes leave the embeddings in the half they go to. -/
theorem half_writes (M : Memref sig .tc .vmem S2x128x8192 .bf16) (f : M.view.ty.Contents (Elt F)) (W : Vec F S128x128 .bf16)
    (X : Vec F S64x128x128 .f32) (I : Vec F S64x128 .i32) (i : grid0.Coords) (s : Fin 2) (hs : s.val = (i 0).val % 2) (j : S128x8192.Idx) :
    M.view.read (Elt F) (M.view.writes (Elt F) f ((List.finRange 64).reverse.map (piece W X I i))) (ix3 s (j 0) (j 1)) = embBuf W X I j := by
  have hj : (j 1).val < 8192 := (j 1).isLt
  refine (View.read_writes_apply_of_pieces M.view f (fun y : S2x128x8192.Idx => embBuf W X I (ix2 (y 1) (y 2))) _ ?_ _ ?_).trans ?_
  · intro q hq x
    obtain ⟨p, -, rfl⟩ := List.mem_map.mp hq
    have h2 : (x 2).val < 128 := (x 2).isLt
    have e1 : ((piece W X I i p).1.emb x 1).val = (x 1).val := by
      show offTab p i 1 + 1 * (x 1).val = _
      rw [offTab_eq]; show 0 + 1 * (x 1).val = _; omega
    have e2 : ((piece W X I i p).1.emb x 2).val = 128 * p.val + (x 2).val := by
      show offTab p i 2 + 1 * (x 2).val = _
      rw [offTab_eq]; show 128 * p.val + 1 * (x 2).val = _; omega
    have hp : (⟨((piece W X I i p).1.emb x 2).val / 128, by omega⟩ : Fin 64) = p := Fin.ext (by show _ / 128 = _; omega)
    show _ = embBuf W X I (ix2 ((piece W X I i p).1.emb x 1) ((piece W X I i p).1.emb x 2))
    unfold embBuf
    show treeEmb W _ _ x = treeEmb W _ _ _
    have hx : x = ix3 0 ((piece W X I i p).1.emb x 1) ⟨((piece W X I i p).1.emb x 2).val % 128, Nat.mod_lt _ (by omega)⟩ := by
      funext a; fin_cases a
      · exact Fin.ext (by have : (x 0).val < 1 := (x 0).isLt; show (x 0).val = 0; omega)
      · exact Fin.ext e1.symm
      · exact Fin.ext (by show (x 2).val = _ % 128; omega)
    exact congrArg₂ (fun (p : Fin 64) x => treeEmb W (View.ld X (Rect.unit ![p.val, 0, 0] S1x128x128.size (treeInb p)))
      (View.ld I (Rect.unit ![p.val, 0] S1x128.size (rowInb p))) x) hp.symm hx
  · let p : Fin 64 := ⟨(j 1).val / 128, by omega⟩
    refine ⟨piece W X I i p, List.mem_map.mpr ⟨p, List.mem_reverse.mpr (List.mem_finRange p), rfl⟩, (Rect.mem_set_unit (inb := offTab_inb p i)).mpr fun a => ?_⟩
    rw [offTab_eq]
    fin_cases a
    · show (i 0).val % 2 ≤ s.val ∧ s.val < (i 0).val % 2 + 1; omega
    · have : (j 0).val < 128 := (j 0).isLt
      show 0 ≤ (j 0).val ∧ (j 0).val < 0 + 128; omega
    · show 128 * ((j 1).val / 128) ≤ (j 1).val ∧ (j 1).val < 128 * ((j 1).val / 128) + 128; omega
  · exact congrArg (embBuf W X I) (funext fun a => by fin_cases a <;> rfl)

/-! ## The run -/

-- past the default budget: the body's 64 writes compared with the list of them
set_option maxHeartbeats 4000000 in
set_option maxRecDepth 65536 in
/-- One point, run from buffers that read `X1 … X7` and a scratch buffer that reads `X9`. -/
theorem point0 (c : Dev nD) (i : grid0.Coords) (arg1 : Memref sig .tc .vmem S64x128x128 .f32) (harg1 : arg1.IsWhole) (arg2 : Memref sig .tc .vmem S64x128 .i32) (harg2 : arg2.IsWhole) (arg3 : Memref sig .tc .vmem S64x128 .f32) (harg3 : arg3.IsWhole) (arg4 : Memref sig .tc .vmem S128x128 .bf16) (harg4 : arg4.IsWhole) (arg5 : Memref sig .tc .vmem S1x128 .bf16) (harg5 : arg5.IsWhole) (arg6 : Memref sig .tc .vmem S64x8192 .bf16) (harg6 : arg6.IsWhole) (arg7 : Memref sig .tc .vmem S64x8192 .bf16) (harg7 : arg7.IsWhole) (arg8 : Memref sig .tc .vmem S64x256 .f32) (harg8 : arg8.IsWhole) (arg9 : Memref sig .tc .vmem S2x128x8192 .bf16) (harg9 : arg9.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9)
    (s s' : Fin 2) (hs : s.val = (i 0).val % 2) (hs' : s'.val = 1 - (i 0).val % 2) (E : Set ℕ) (Q : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
      ∗ (iprop(pt c arg1 f1 ∗ pt c arg2 f2 ∗ pt c arg3 f3 ∗ pt c arg4 f4 ∗ pt c arg5 f5 ∗ pt c arg6 f6 ∗ pt c arg7 f7
          ∗ (∃ f, ⌜arg8.view.read (Elt F) f = pooled (half (arg9.view.read (Elt F) f9) s') (arg5.view.read (Elt F) f5) (arg3.view.read (Elt F) f3)
              (arg7.view.read (Elt F) f7) (arg6.view.read (Elt F) f6)⌝ ∗ pt c arg8 f)
          ∗ (∃ f, ⌜∀ j : S128x8192.Idx, arg9.view.read (Elt F) f (ix3 s (j 0) (j 1))
              = embBuf (arg4.view.read (Elt F) f4) (arg1.view.read (Elt F) f1) (arg2.view.read (Elt F) f2) j⌝ ∗ pt c arg9 f)) -∗ Q ⟨⟩))
    ⊢ wp frame (wpE (defs₀ (F := F)) Variants.none c none) E
        (cc0__emb_body (F := F) i arg1 harg1 arg2 harg2 arg3 harg3 arg4 harg4 arg5 harg5 arg6 harg6 arg7 harg7 arg8 harg8 arg9 harg9) Q := by
  iintro ⟨H1, H2, H3, H4, H5, H6, H7, H8, H9, Hk⟩
  sl_exec_parts!
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (· iexact H8)
    ipureintro
    have hh : View.readAt (Elt F) arg9.view (Rect.unit (s := S2x128x8192) (k0_off1 i) S1x128x8192.size (k0_off1_inb i)).toLoadRect f9 = half (arg9.view.read (Elt F) f9) s' := by
      funext y
      refine congrArg (arg9.view.read (Elt F) f9) (funext fun a => Fin.ext ?_)
      have ho := congrFun (k0_off1_eq i)
      match a with
      | ⟨0, _⟩ =>
        have h : k0_off1 i 0 = 1 - (i 0).val % 2 := ho 0
        have : (y 0).val < 1 := (y 0).isLt
        show k0_off1 i 0 + 1 * (y 0).val = s'.val; omega
      | ⟨1, _⟩ => have h : k0_off1 i 1 = 0 := ho 1; show k0_off1 i 1 + 1 * (y 1).val = (y 1).val; omega
      | ⟨2, _⟩ => have h : k0_off1 i 2 = 0 := ho 2; show k0_off1 i 2 + 1 * (y 2).val = (y 2).val; omega
    rw [← hh]
    refine (View.read_writes_full arg8.view _ _ _ _).trans ?_
    rw [← View.readAt_full arg5.view f5 inb_S1x128_S1x128_0_0, ← View.readAt_full arg3.view f3 inb_S64x128_S64x128_0_0,
      ← View.readAt_full arg7.view f7 inb_S64x8192_S64x8192_0_0, ← View.readAt_full arg6.view f6 inb_S64x8192_S64x8192_0_0]
    rfl
  · iexists _; isplitr; swap; (· iexact H9)
    ipureintro
    intro j
    rw [← half_writes arg9 f9 (arg4.view.read (Elt F) f4) (arg1.view.read (Elt F) f1) (arg2.view.read (Elt F) f2) i s hs j]
    rw [← View.readAt_full arg4.view f4 inb_S128x128_S128x128_0_0]
    exact congrArg (fun L => arg9.view.read (Elt F) (arg9.view.writes (Elt F) f9 L) (ix3 s (j 0) (j 1))) rfl

end Cert.KernelIdeal.Own

end
-- ==== Proof.RelSeg.lean ====
/-
  A kernel region of which only a relation on what it leaves is known.

  The first kernel's output block at its first grid point is computed from a scratch buffer that nothing has written
  yet, so no function of the inputs names it.  `relSeg` is the region record for such a kernel: its body is proved with
  some windows held to a predicate, and the region is left with every array at some contents of which `RDat.ArrAt`
  holds.  Arrays and every other held buffer are one valuation on both sides.
-/
module

public import Idealize.ShloMosaic.Lib.Pipeline.RegionArrays
public import Idealize.ShloMosaic.Lib.Pipeline.RegionArraysS
public import Idealize.ShloMosaic.Lib.Pipeline.DatRel

@[expose] public section

noncomputable section

namespace Cert.Own

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe
open PCS
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

variable {Λ₀ : Labels} {P : Type} [Fintype P]

omit [Fintype P] [Preorder Lvl] in
/-- The arrays after a region of relational data: held at one family of contents, each of which the data allow. -/
theorem arraysAt_family [∀ e, Nonempty (Val e)] {cfg : Cfg sig Λ₀} {c : Dev nD} (rd : RDat τ Val Ix Name U Lvl cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (p : P) (D : Dev nD → CellTallies nD τ sig Ix)
  (fg : (q : P) → Fin (pin pcs a q).W → Bool)
  (Rl : (q : P) → (c : Dev nD) → (w : Fin (pin pcs a q).W) → Fin (pin pcs a q).N → (((pin pcs a q).win w).block.Idx → Val ((pin pcs a q).win w).elt) → Prop)

/-- Every pipeline's data with its marked windows held to `Rl`. -/
abbrev relData : (q : P) → (c : Dev nD) → RDat τ Val Ix Name U Lvl (pin pcs a q) c := fun q c => (pdats q c).toRRel (fg q) (Rl q c)

/-- The record of a region without semaphores of its own: entered with `S` held at `W c`, left with `S` held at
    `mk c A` for some family `A` of array contents that the data allow. -/
def relSeg [∀ e, Nonempty (Val e)] (S : Finset (DevRef τ sig)) (hS : arrRefs (pcs p).spec ⊆ S)
    (kit : PLaunchFacts (nD := nD) (τ := τ) pcs p) (hK : (pcs p).pre.K = 0)
    (hbody : ∀ c, BodyObligationRel (pdats p c) defs₀ 𝒱₀ ι Set.univ (fg p) (Rl p c))
    (howed : ∀ c t, (pdats p c).owed t = D c) (hrec : ∀ c, (pdats p c).recorded 0 = Set.univ)
    (hshare : ∀ c w, (pdats p c).share w = fullShare)
    (hin : ∀ c, (scopedRest (pin pcs a p).spec c : sProp 𝕄) ⊢ (pdats p c).Φ 0)
    (hout : ∀ c, (pdats p c).Φ (Fin.last (pin pcs a p).N) ⊢ (scopedRest (pin pcs a p).spec c : sProp 𝕄))
    (b : Dev nD → Lvl) (hcut : LevelCut pcs a ι L lv p D b) (R : Dev nD → sProp 𝕄)
    (W : Dev nD → Valuation τ sig Val)
    (hW : ∀ c w, (pdats p c).arrAt w 0 = W c (Proc.devRef .tc (arrRef (pin pcs a p).spec w)))
    (mk : (c : Dev nD) → ((w : Fin (pin pcs a p).W) → Buf Val (((pin pcs a p).win w).arr.view.loc (c.tc : Thread nD τ))) → Valuation τ sig Val)
    (hmk : ∀ c A, (∀ w, (relData pcs a pdats fg Rl p c).ArrAt w (pin pcs a p).N (A w)) →
      ∀ w, A w = mk c A (Proc.devRef .tc (arrRef (pin pcs a p).spec w)))
    (hmkO : ∀ c A, ∀ d ∈ S \ arrRefs (pcs p).spec, mk c A d = W c d) :
    RDat.RegionSeg pcs a (relData pcs a pdats fg Rl) ι defs₀ 𝒱₀ L lv p where
  win := kit.to₀.win
  block_pos := kit.to₀.block_pos
  stage_whole := kit.to₀.stage_whole
  K := PEmpty
  osem k := k.elim
  ho := OwnSemFacts.none _
  hbody c := (hbody c).toRRel
  hwaits c := RDat.cellsWaits_of_cut (pin pcs a) (relData pcs a pdats fg Rl) ι p c (b c) (D c) (howed c) (hcut.hι c) (hcut.hιb c) (hcut.hD c)
  pre c := iprop(StableHlo.held (c.tc : Thread nD τ) S (W c) ∗ (∃ Wd, owes (c : Thread nD τ) (D c) Wd) ∗ R c)
  post c := iprop(∃ A, ⌜∀ w, (relData pcs a pdats fg Rl p c).ArrAt w (pin pcs a p).N (A w)⌝
    ∗ StableHlo.held (c.tc : Thread nD τ) S (mk c A) ∗ (∃ Wd, owes (c : Thread nD τ) (D c) Wd) ∗ R c)
  X _ := iprop(emp)
  Y _ := iprop(emp)
  Z c := iprop(StableHlo.held (c.tc : Thread nD τ) (S \ arrRefs (pcs p).spec) (W c) ∗ R c)
  hentry c := by
    show _ ⊢ |={Set.univ}=> iprop((pdats p c).arrays ((pdats p c).arrAt · 0) ∗ prefHeld (pcs p).pre c (fun _ => fullShare) (a p).1
        ∗ (pdats p c).owesAt ι 0 ∗ _ ∗ _)
    rw [prefHeld_of_none _ hK, StableHlo.held_sub_split (c.tc : Thread nD τ) hS (W c),
      ← arrays_held pcs a pdats p kit c (hshare c) ((pdats p c).arrAt · 0) (W c) (hW c)]
    iintro ⟨⟨⟨Ha, Hr⟩, HO, HR⟩, -, -⟩
    imodintro
    isplitl [Ha]; · iexact Ha
    isplitr; · iempintro
    isplitl [HO]
    · unfold Dat.owesAt owesWithin Dat.bound
      rw [howed c 0, hrec c]
      icases HO with ⟨%Wd, HO⟩; iexists Wd; isplitr; · ipureintro; exact fun _ _ => Or.inl trivial
      iexact HO
    isplitr; · iempintro
    isplitl [Hr]; · iexact Hr
    iexact HR
  hin c := (show _ ⊢ (scopedRest (pin pcs a p).spec c : sProp 𝕄) from by
    iintro ⟨-, -, Hr⟩; iexact Hr).trans (hin c)
  hout c := (hout c).trans (by
    rw [ownSems0_none]
    iintro Hr
    isplitr; · iempintro
    isplitr; · iempintro
    iexact Hr)
  hexit c := by
    show iprop((relData pcs a pdats fg Rl p c).arraysAt (pin pcs a p).N ∗ (pdats p c).owesAt ι (Fin.last (pin pcs a p).N) ∗ _ ∗ _) ⊢ _
    iintro ⟨Ha, HO, -, ⟨Hr, HR⟩⟩
    ihave Ha := (show (relData pcs a pdats fg Rl p c).arraysAt (pin pcs a p).N ⊢ iprop(∃ A, ⌜∀ w, (relData pcs a pdats fg Rl p c).ArrAt w (pin pcs a p).N (A w)⌝ ∗ (pdats p c).arrays A)
      from arraysAt_family (relData pcs a pdats fg Rl p c) (pin pcs a p).N) $$ Ha
    icases Ha with ⟨%A, %hA, Ha⟩
    imodintro
    iexists A
    isplitr; · ipureintro; exact hA
    rw [StableHlo.held_sub_split (c.tc : Thread nD τ) hS (mk c A), ← arrays_held pcs a pdats p kit c (hshare c) A (mk c A) (hmk c A hA),
      StableHlo.held_congr (c.tc : Thread nD τ) (S := S \ arrRefs (pcs p).spec) (hmkO c A)]
    isplitl [Ha Hr]
    · isplitl [Ha]; · iexact Ha
      iexact Hr
    isplitl [HO]
    · unfold Dat.owesAt owesWithin
      rw [howed c (Fin.last _)]
      icases HO with ⟨%Wd, -, HO⟩; iexists Wd; iexact HO
    iexact HR

end Cert.Own

end
-- ==== Proof.Region0.lean ====
/-
  The first kernel as a region of the program.

  `emb V u` is what point `u` leaves in its half of the scratch buffer, `outBlk V u t` the output block point `t` makes
  from it.  Between two points the invariant says of the scratch buffer only what the point before wrote; so the output
  block of every point but the first is named, and of the first nothing is said.
-/
module

public import proofs.«01_k».proof.Proof.Gen.KernelIdeal.Launch
public import proofs.«01_k».proof.Proof.Gen.KernelIdeal.Points
public import proofs.«01_k».proof.Proof.Gen.KernelIdeal.Regions
public import proofs.«01_k».proof.Proof.Point0
public import proofs.«01_k».proof.Proof.RelSeg

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligationRel)

variable {F : FTy → Type} [FloatOps F]

local notation "𝕄" => MT nD τ sig Unit (Elt F) ℕ (UR nD τ) ℕ

omit [FloatOps F] in
/-- Owning a whole memref at what it reads is holding its buffer at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns pt
  rw [h.set_eq_univ]

/-! ## What the points compute -/

section Values

variable (V : Valuation τ sig (Elt F))

/-- The block each window shows at point `t`, of the array as the region finds it. -/
def in0 (t : Fin cfg0.N) : (w : Fin cfg0.W) → ((cfg0.win w).block.Idx → Elt F (cfg0.win w).elt)
  | ⟨0, _⟩ => ((cfg0.win 0).blk t).view.read (Elt F) (V main_arg0)
  | ⟨1, _⟩ => ((cfg0.win 1).blk t).view.read (Elt F) (V main_arg1)
  | ⟨2, _⟩ => ((cfg0.win 2).blk t).view.read (Elt F) (V main_v2)
  | ⟨3, _⟩ => ((cfg0.win 3).blk t).view.read (Elt F) (V main_v3)
  | ⟨4, _⟩ => ((cfg0.win 4).blk t).view.read (Elt F) (V main_v5)
  | ⟨5, _⟩ => ((cfg0.win 5).blk t).view.read (Elt F) (V main_v17)
  | ⟨6, _⟩ => ((cfg0.win 6).blk t).view.read (Elt F) (V main_v22)
  | ⟨7, _⟩ => ((cfg0.win 7).blk t).view.read (Elt F) (V main_v23)

/-- The embeddings point `t` writes to its half of the scratch buffer. -/
def emb (t : Fin cfg0.N) : S128x8192.Idx → F .bf16 := embBuf (in0 V t 3) (in0 V t 0) (in0 V t 1)

/-- The output block of point `t`, from the embeddings of point `u`. -/
def outBlk (u t : Fin cfg0.N) : FVec F S64x256 .f32 :=
  pooled (fun j => emb V u (ix2 (j 1) (j 2))) (in0 V t 4) (in0 V t 2) (in0 V t 6) (in0 V t 5)

/-! ## The proof data -/

/-- The windows held to a predicate: the output only. -/
abbrev fg0 : Fin cfg0.W → Bool := fun w => decide (w = 7)

/-- What is known of a window's block after point `t`: the output's is `outBlk` once a point has gone before. -/
def rel0 : (w : Fin cfg0.W) → Fin cfg0.N → ((cfg0.win w).block.Idx → Elt F (cfg0.win w).elt) → Prop
  | ⟨0, _⟩, _, _ => True
  | ⟨1, _⟩, _, _ => True
  | ⟨2, _⟩, _, _ => True
  | ⟨3, _⟩, _, _ => True
  | ⟨4, _⟩, _, _ => True
  | ⟨5, _⟩, _, _ => True
  | ⟨6, _⟩, _, _ => True
  | ⟨7, _⟩, t, X => ∀ u : Fin cfg0.N, u.val + 1 = t.val → X = outBlk V u t

/-- The second kernel's buffers, idle here. -/
def others0 (c : Dev nD) : sProp 𝕄 :=
  iprop((∃ f, pt (F := F) c (Memref.whole cc1_stg0_0) f) ∗ (∃ f, pt (F := F) c (Memref.whole cc1_stg0_1) f) ∗ (∃ f, pt (F := F) c (Memref.whole cc1_stg1_0) f)
    ∗ (∃ f, pt (F := F) c (Memref.whole cc1_stg2_0) f) ∗ (∃ f, pt (F := F) c (Memref.whole cc1_stg3_0) f) ∗ (∃ f, pt (F := F) c (Memref.whole cc1_stg4_0) f)
    ∗ (∃ f, pt (F := F) c (Memref.whole cc1_stg5_0) f) ∗ (∃ f, pt (F := F) c (Memref.whole cc1_stg5_1) f))

/-- The half of the scratch buffer point `n` writes. -/
abbrev slot (n : ℕ) : Fin 2 := ⟨n % 2, Nat.mod_lt _ (by decide)⟩

/-- Before point `n` the scratch buffer holds, in the half of the point before, that point's embeddings. -/
def scratchAt (c : Dev nD) (n : ℕ) : sProp 𝕄 :=
  iprop(∃ f : Bf (F := F) c (Memref.whole cc0_scratch0), ⌜∀ u : Fin cfg0.N, u.val + 1 = n → ∀ j : S128x8192.Idx,
    (Memref.whole cc0_scratch0).view.read (Elt F) f (ix3 (slot u.val) (j 0) (j 1)) = emb V u j⌝ ∗ pt c (Memref.whole cc0_scratch0) f)

/-- The proof data of the first kernel on core `c`. -/
def dat0 (c : Dev nD) : Dat τ (Elt F) Unit ℕ (UR nD τ) ℕ cfg0 c where
  A w := V (Proc.devRef .tc (Pipeline.arrRef spec0 w))
  after w t := in0 V t w
  Φ t := iprop(scratchAt V c t.val ∗ others0 c)
  q _ := fullShare
  owed _ := 0

theorem coords0 : ∀ t : Fin grid0.N, (grid0.coords t 0).val = t.val := by decide

/-- The kernel body's row of the body table, at a point. -/
theorem defs₀_row0 (t : Fin cfg0.N) : (defs₀ (F := F)) .tc cfg0.body (cfg0.bodyArgs t (cfg0.slots t)) = bodyAt0 t := by
  unfold defs₀; rw [Defs.onTc_tc]

/-- What the body finds in an input's staging buffer: the window's block. -/
theorem before0 (c : Dev nD) (t : Fin cfg0.N) :
    (∀ d, (dat0 V c).before 0 t d = in0 V t 0) ∧ (∀ d, (dat0 V c).before 1 t d = in0 V t 1) ∧ (∀ d, (dat0 V c).before 2 t d = in0 V t 2)
    ∧ (∀ d, (dat0 V c).before 3 t d = in0 V t 3) ∧ (∀ d, (dat0 V c).before 4 t d = in0 V t 4) ∧ (∀ d, (dat0 V c).before 5 t d = in0 V t 5)
    ∧ (∀ d, (dat0 V c).before 6 t d = in0 V t 6) := by
  refine ⟨fun d => ?_, fun d => ?_, fun d => ?_, fun d => ?_, fun d => ?_, fun d => ?_, fun d => ?_⟩
  · exact (Dat.before_in_eq_fetched (dat0 V c) 0 rfl (fun _ => rfl) (fun _ _ _ => rfl) (fun _ => rfl) t d).trans rfl
  · exact (Dat.before_in_eq_fetched (dat0 V c) 1 rfl (fun _ => rfl) (fun _ _ _ => rfl) (fun _ => rfl) t d).trans rfl
  · exact (Dat.before_in_eq_fetched (dat0 V c) 2 rfl (fun _ => rfl) (fun _ _ _ => rfl) (fun _ => rfl) t d).trans rfl
  · exact (Dat.before_in_eq_fetched (dat0 V c) 3 rfl (fun _ => rfl) (fun _ _ _ => rfl) (fun _ => rfl) t d).trans rfl
  · exact (Dat.before_in_eq_fetched (dat0 V c) 4 rfl (fun _ => rfl) (fun _ _ _ => rfl) (fun _ => rfl) t d).trans rfl
  · exact (Dat.before_in_eq_fetched (dat0 V c) 5 rfl (fun _ => rfl) (fun _ _ _ => rfl) (fun _ => rfl) t d).trans rfl
  · exact (Dat.before_in_eq_fetched (dat0 V c) 6 rfl (fun _ => rfl) (fun _ _ _ => rfl) (fun _ => rfl) t d).trans rfl

set_option maxHeartbeats 1000000 in
set_option maxRecDepth 16384 in
/-- One point of the region: from the scratch buffer as the point before left it to the scratch buffer as this one leaves it. -/
theorem body0 (c : Dev nD) : BodyObligationRel (dat0 V c) (defs₀ (F := F)) Variants.none () Set.univ fg0 (rel0 V) := by
  intro t
  rw [bigSep_W0, bigSep_W0, defs₀_row0]
  obtain ⟨b0, b1, b2, b3, b4, b5, b6⟩ := before0 V c t
  show iprop((scratchAt V c t.val ∗ others0 c) ∗ _ ∗ (∃ d, owns (c : Thread nD τ) (st0_0 t) fullShare ((dat0 V c).before 0 t d)) ∗ (∃ d, owns (c : Thread nD τ) (st0_1 t) fullShare ((dat0 V c).before 1 t d))
      ∗ (∃ d, owns (c : Thread nD τ) (st0_2 t) fullShare ((dat0 V c).before 2 t d)) ∗ (∃ d, owns (c : Thread nD τ) (st0_3 t) fullShare ((dat0 V c).before 3 t d))
      ∗ (∃ d, owns (c : Thread nD τ) (st0_4 t) fullShare ((dat0 V c).before 4 t d)) ∗ (∃ d, owns (c : Thread nD τ) (st0_5 t) fullShare ((dat0 V c).before 5 t d))
      ∗ (∃ d, owns (c : Thread nD τ) (st0_6 t) fullShare ((dat0 V c).before 6 t d)) ∗ (∃ Y, ⌜_⌝ ∗ owns (c : Thread nD τ) (st0_7 t) fullShare Y))
    ⊢ wp frame _ _ _ fun _ => iprop((scratchAt V c (t.val + 1) ∗ others0 c) ∗ _ ∗ owns (c : Thread nD τ) (st0_0 t) fullShare (in0 V t 0) ∗ owns (c : Thread nD τ) (st0_1 t) fullShare (in0 V t 1)
      ∗ owns (c : Thread nD τ) (st0_2 t) fullShare (in0 V t 2) ∗ owns (c : Thread nD τ) (st0_3 t) fullShare (in0 V t 3) ∗ owns (c : Thread nD τ) (st0_4 t) fullShare (in0 V t 4)
      ∗ owns (c : Thread nD τ) (st0_5 t) fullShare (in0 V t 5) ∗ owns (c : Thread nD τ) (st0_6 t) fullShare (in0 V t 6) ∗ (∃ X, ⌜rel0 V 7 t X⌝ ∗ owns (c : Thread nD τ) (st0_7 t) fullShare X))
  simp only [b0, b1, b2, b3, b4, b5, b6, owns_pt c (st0_0 t) (hstage0_0 ((cfg0.slots t 0).cast nbuf0_0)), owns_pt c (st0_1 t) (hstage0_1 ((cfg0.slots t 1).cast nbuf0_1)),
    owns_pt c (st0_2 t) (hstage0_2 ((cfg0.slots t 2).cast nbuf0_2)), owns_pt c (st0_3 t) (hstage0_3 ((cfg0.slots t 3).cast nbuf0_3)),
    owns_pt c (st0_4 t) (hstage0_4 ((cfg0.slots t 4).cast nbuf0_4)), owns_pt c (st0_5 t) (hstage0_5 ((cfg0.slots t 5).cast nbuf0_5)),
    owns_pt c (st0_6 t) (hstage0_6 ((cfg0.slots t 6).cast nbuf0_6)), owns_pt c (st0_7 t) (hstage0_7 ((cfg0.slots t 7).cast nbuf0_7)), scratchAt]
  iintro ⟨⟨⟨%f9, %h9, H9⟩, HR⟩, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%Y, -, %f7, -, H7⟩⟩
  have hc : (grid0.coords t 0).val = t.val := coords0 t
  iapply point0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6))
    (st0_7 t) (hstage0_7 ((cfg0.slots t 7).cast nbuf0_7)) (Memref.whole cc0_scratch0) (Memref.isWhole_whole _) f0 f1 f2 f3 f4 f5 f6 f7 f9
    (slot t.val) ⟨1 - t.val % 2, by omega⟩ (by show t.val % 2 = _; rw [hc]) (by show 1 - t.val % 2 = _; rw [hc]) Set.univ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  iintro ⟨H0, H1, H2, H3, H4, H5, H6, ⟨%g7, %hg7, H7⟩, ⟨%g9, %hg9, H9⟩⟩
  isplitl [H9 HR]
  · isplitl [H9]
    · iexists g9; isplitr; swap; (· iexact H9)
      ipureintro
      intro u hu j
      obtain rfl : u = t := Fin.ext (by omega)
      rw [hg9 j, h3, h0, h1]; rfl
    · iexact HR
  isplitl [HO]; · iexact HO
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  isplitl [H5]; · iexists f5; isplitr; swap; (· iexact H5); ipureintro; exact h5
  isplitl [H6]; · iexists f6; isplitr; swap; (· iexact H6); ipureintro; exact h6
  iexists _
  isplitr; swap
  · iexists g7; isplitr; swap; (· iexact H7); ipureintro; rfl
  ipureintro
  intro u hu
  rw [hg7, h4, h2, h6, h5]
  unfold outBlk
  congr 1
  funext j
  have hs : (⟨1 - t.val % 2, by omega⟩ : Fin 2) = slot u.val := Fin.ext (by show 1 - t.val % 2 = u.val % 2; omega)
  unfold half
  rw [hs]
  exact h9 u hu (ix2 (j 1) (j 2))

end Values

end Cert.KernelIdeal.Own

end
-- ==== Proof.Array0.lean ====
/-
  What the first kernel leaves in its output array.

  Rows 64 and on are the output blocks of points 1 … 32; of rows 0 … 63, the block of the first point, nothing is said.
-/
module

public import proofs.«01_k».proof.Proof.Region0
public import Idealize.ShloMosaic.Lib.Pipeline.ArrRel

@[expose] public section

noncomputable section

namespace Cert.KernelIdeal.Own

open Cert.KernelIdeal Cert.KernelIdeal.Gen
open Idealize.ShloMosaic
open Idealize.ShloMosaic.TcCoe
open Idealize.SL Idealize.SL.RA Idealize.SL.BI
open Idealize.SL.Sem
open Idealize.ShloMosaic.ValueIdx
open Idealize.ShloMosaic.Pipeline (Dat RDat)

variable {F : FTy → Type} [FloatOps F]
variable (V : Valuation τ sig (Elt F))

/-- The array of embeddings: row `64 t + r` is row `r` of the output block of point `t`. -/
def embArr : S2112x256.Idx → F .f32 := fun x =>
  outBlk V ⟨(x 0).val / 64 - 1, by have : (x 0).val < 2112 := (x 0).isLt; show _ < grid0.N; rw [N_0]; omega⟩
    ⟨(x 0).val / 64, by have : (x 0).val < 2112 := (x 0).isLt; show _ < grid0.N; rw [N_0]; omega⟩
    (ix2 ⟨(x 0).val % 64, Nat.mod_lt _ (by decide)⟩ (x 1))

theorem index0_7 : ∀ t : Fin grid0.N, win0_7.index t 0 = t.val ∧ win0_7.index t 1 = 0 := by decide +kernel

theorem emb0_7 (t : Fin grid0.N) (y : S64x256.Idx) :
    ((((win0_7.blk t).view.emb y : S2112x256.Idx) 0).val = t.val * 64 + (y 0).val) ∧ ((((win0_7.blk t).view.emb y : S2112x256.Idx) 1).val = (y 1).val) := by
  obtain ⟨h0, h1⟩ := index0_7 t
  refine ⟨(Pipeline.Window.rect_emb_val win0_7 t y 0).trans ?_, (Pipeline.Window.rect_emb_val win0_7 t y 1).trans ?_⟩
  · rw [h0]; rfl
  · rw [h1]; show 0 * 256 + (y 1).val = _; omega

/-- The output array after the region, from row 64 on. -/
theorem arr0 (c : Dev nD) (G : S2112x256.Idx → F .f32) (hG : ((dat0 V c).toRRel fg0 (rel0 V)).ArrAt 7 cfg0.N G)
    (x : S2112x256.Idx) (hx : 64 ≤ (x 0).val) : G x = embArr V x := by
  obtain ⟨X, hX, hA⟩ := RDat.ArrAt.exists_exact hG
  have e := hA (Function.update (fun _ _ _ => Classical.arbitrary _) 7 X) fun u _ _ => by rw [Function.update_self]
  rw [e]
  refine Dat.arrAt_forall_of_covers (Val := Elt F) (c := c) (cfg := cfg0) _ 7 (fun (i : S2112x256.Idx) v => 64 ≤ (i 0).val → v = embArr V i) (by decide +kernel) (fun t hf y => ?_) x
    (Memref.isWhole_whole _) hx
  intro hr
  obtain ⟨h0, h1⟩ := emb0_7 t y
  have hy : ((y : S64x256.Idx) 0).val < 64 := (y 0).isLt
  change 64 ≤ (((win0_7.blk t).view.emb y : S2112x256.Idx) 0).val at hr
  have hL : ∀ u : Fin cfg0.N, u.val + 1 = t.val → X t = outBlk V u t := Dat.toRRel_leaves (dat0 V c) (w := 7) rfl (hX t t.isLt hf)
  have ht : 1 ≤ t.val := by omega
  show Function.update (fun _ _ _ => Classical.arbitrary _) 7 X 7 t y = embArr V ((win0_7.blk t).view.emb y)
  rw [Function.update_self, hL ⟨t.val - 1, Nat.lt_of_le_of_lt (Nat.sub_le _ _) t.isLt⟩ (by show t.val - 1 + 1 = _; omega)]
  unfold embArr
  have a1 : (((win0_7.blk t).view.emb y : S2112x256.Idx) 0).val / 64 = t.val := by omega
  have a2 : (((win0_7.blk t).view.emb y : S2112x256.Idx) 0).val % 64 = (y 0).val := by omega
  have key : ∀ (u u' t' : Fin cfg0.N) (y' : S64x256.Idx), u = u' → t = t' → y = y' → outBlk V u t y = outBlk V u' t' y' := by
    rintro _ _ _ _ rfl rfl rfl; rfl
  refine key _ _ _ _ (Fin.ext ?_) (Fin.ext a1.symm) (funext fun a => Fin.ext ?_)
  · show t.val - 1 = _ / 64 - 1; rw [a1]
  · match a with
    | ⟨0, _⟩ => exact a2.symm
    | ⟨1, _⟩ => exact h1.symm

end Cert.KernelIdeal.Own

end
-- ==== Proof.Region1.lean ====
/-
  The second kernel as a region of the program: at every point one block of 512 rows through the two-layer perceptron.
-/
module

public import proofs.«01_k».proof.Proof.Region0
public import Idealize.ShloMosaic.Lib.Pipeline.ValueKit.Geometry

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligationRel RDat)

variable {F : FTy → Type} [FloatOps F]

local notation "𝕄" => MT nD τ sig Unit (Elt F) ℕ (UR nD τ) ℕ

/-- One point, run on unnamed buffers: the output block is the perceptron of the input block. -/
theorem point1 (c : Dev nD) (i : grid1.Coords) (arg1 : Memref sig .tc .vmem S512x256 .f32) (harg1 : arg1.IsWhole) (arg2 : Memref sig .tc .vmem S256x64 .bf16) (harg2 : arg2.IsWhole)
    (arg3 : Memref sig .tc .vmem S1x64 .f32) (harg3 : arg3.IsWhole) (arg4 : Memref sig .tc .vmem S64x1 .bf16) (harg4 : arg4.IsWhole) (arg5 : Memref sig .tc .vmem S1x1 .f32) (harg5 : arg5.IsWhole)
    (arg6 : Memref sig .tc .vmem S512x1 .f32) (harg6 : arg6.IsWhole)
    (f1 : Bf (F := F) c arg1) (f2 : Bf (F := F) c arg2) (f3 : Bf (F := F) c arg3) (f4 : Bf (F := F) c arg4) (f5 : Bf (F := F) c arg5) (f6 : Bf (F := F) c arg6)
    (E : Set ℕ) (Q : PUnit → sProp 𝕄) :
    iprop(pt c arg1 f1 ∗ pt c arg2 f2 ∗ pt c arg3 f3 ∗ pt c arg4 f4 ∗ pt c arg5 f5 ∗ pt c arg6 f6
      ∗ (iprop(pt c arg1 f1 ∗ pt c arg2 f2 ∗ pt c arg3 f3 ∗ pt c arg4 f4 ∗ pt c arg5 f5
          ∗ (∃ f, ⌜arg6.view.read (Elt F) f = k1_pay1 (arg1.view.read (Elt F) f1) (arg2.view.read (Elt F) f2) (arg3.view.read (Elt F) f3)
              (arg4.view.read (Elt F) f4) (arg5.view.read (Elt F) f5)⌝ ∗ pt c arg6 f)) -∗ Q ⟨⟩))
    ⊢ wp frame (wpE (defs₀ (F := F)) Variants.none c none) E
        (cc1__mlp_body (F := F) i arg1 harg1 arg2 harg2 arg3 harg3 arg4 harg4 arg5 harg5 arg6 harg6) Q := by
  rw [cc1__mlp_body_eq_skeleton]
  unfold cc1__mlp_body_skel
  iintro ⟨H1, H2, H3, H4, H5, H6, Hk⟩
  sl_exec
  sl_step
  iapply Hk
  isplitl [H1]; · iexact H1
  isplitl [H2]; · iexact H2
  isplitl [H3]; · iexact H3
  isplitl [H4]; · iexact H4
  isplitl [H5]; · iexact H5
  iexists _; isplitr; swap; (· iexact H6)
  ipureintro
  refine (View.read_writes_full arg6.view _ _ _ _).trans ?_
  rw [← View.readAt_full arg1.view f1 inb_S512x256_S512x256_0_0, ← View.readAt_full arg2.view f2 inb_S256x64_S256x64_0_0,
    ← View.readAt_full arg3.view f3 inb_S1x64_S1x64_0_0, ← View.readAt_full arg4.view f4 inb_S64x1_S64x1_0_0, ← View.readAt_full arg5.view f5 inb_S1x1_S1x1_0_0]

section Values

variable (V : Valuation τ sig (Elt F))

/-- The block each window shows at point `t`, of the array as the region finds it. -/
def in1 (t : Fin cfg1.N) : (w : Fin cfg1.W) → ((cfg1.win w).block.Idx → Elt F (cfg1.win w).elt)
  | ⟨0, _⟩ => ((cfg1.win 0).blk t).view.read (Elt F) (V main_v24)
  | ⟨1, _⟩ => ((cfg1.win 1).blk t).view.read (Elt F) (V main_v25)
  | ⟨2, _⟩ => ((cfg1.win 2).blk t).view.read (Elt F) (V main_v26)
  | ⟨3, _⟩ => ((cfg1.win 3).blk t).view.read (Elt F) (V main_v27)
  | ⟨4, _⟩ => ((cfg1.win 4).blk t).view.read (Elt F) (V main_v28)
  | ⟨5, _⟩ => ((cfg1.win 5).blk t).view.read (Elt F) (V main_v29)

/-- The output block of point `t`. -/
def mlpBlk (t : Fin cfg1.N) : FVec F S512x1 .f32 := k1_pay1 (in1 V t 0) (in1 V t 1) (in1 V t 2) (in1 V t 3) (in1 V t 4)

/-- What the body leaves in each window's staging buffer at point `t`. -/
def after1 : (w : Fin cfg1.W) → (t : Fin cfg1.N) → ((cfg1.win w).block.Idx → Elt F (cfg1.win w).elt)
  | ⟨0, _⟩, t => in1 V t 0
  | ⟨1, _⟩, t => in1 V t 1
  | ⟨2, _⟩, t => in1 V t 2
  | ⟨3, _⟩, t => in1 V t 3
  | ⟨4, _⟩, t => in1 V t 4
  | ⟨5, _⟩, t => mlpBlk V t

/-- The proof data of the second kernel on core `c`. -/
def dat1 (c : Dev nD) : Dat τ (Elt F) Unit ℕ (UR nD τ) ℕ cfg1 c where
  A w := V (Proc.devRef .tc (Pipeline.arrRef spec1 w))
  after w t := after1 V w t
  Φ _ := Pipeline.scopedRest (Ix := Unit) (Name := ℕ) (U := UR nD τ) (Lvl := ℕ) (Val := Elt F) spec1 c
  q _ := fullShare
  owed _ := 0

/-- No window of the second kernel is held to a predicate only. -/
abbrev fg1 : Fin cfg1.W → Bool := fun _ => false
/-- So none is needed. -/
abbrev rel1 : (w : Fin cfg1.W) → Fin cfg1.N → ((cfg1.win w).block.Idx → Elt F (cfg1.win w).elt) → Prop := fun _ _ _ => True

/-- The kernel body's row of the body table, at a point. -/
theorem defs₀_row1 (t : Fin cfg1.N) : (defs₀ (F := F)) .tc cfg1.body (cfg1.bodyArgs t (cfg1.slots t)) = bodyAt1 t := by
  unfold defs₀; rw [Defs.onTc_tc]

/-- What the body finds in an input's staging buffer: the window's block. -/
theorem before1 (c : Dev nD) (t : Fin cfg1.N) :
    (∀ d, (dat1 V c).before 0 t d = in1 V t 0) ∧ (∀ d, (dat1 V c).before 1 t d = in1 V t 1) ∧ (∀ d, (dat1 V c).before 2 t d = in1 V t 2)
    ∧ (∀ d, (dat1 V c).before 3 t d = in1 V t 3) ∧ (∀ d, (dat1 V c).before 4 t d = in1 V t 4) := by
  refine ⟨fun d => ?_, fun d => ?_, fun d => ?_, fun d => ?_, fun d => ?_⟩
  · exact (Dat.before_in_eq_fetched (dat1 V c) 0 rfl (fun _ => rfl) (fun _ _ _ => rfl) (fun _ => rfl) t d).trans rfl
  · exact (Dat.before_in_eq_fetched (dat1 V c) 1 rfl (fun _ => rfl) (fun _ _ _ => rfl) (fun _ => rfl) t d).trans rfl
  · exact (Dat.before_in_eq_fetched (dat1 V c) 2 rfl (fun _ => rfl) (fun _ _ _ => rfl) (fun _ => rfl) t d).trans rfl
  · exact (Dat.before_in_eq_fetched (dat1 V c) 3 rfl (fun _ => rfl) (fun _ _ _ => rfl) (fun _ => rfl) t d).trans rfl
  · exact (Dat.before_in_eq_fetched (dat1 V c) 4 rfl (fun _ => rfl) (fun _ _ _ => rfl) (fun _ => rfl) t d).trans rfl

set_option maxRecDepth 16384 in
/-- One point of the region. -/
theorem body1 (c : Dev nD) : BodyObligationRel (dat1 V c) (defs₀ (F := F)) Variants.none () Set.univ fg1 rel1 := by
  intro t
  rw [bigSep_W1, bigSep_W1, defs₀_row1]
  obtain ⟨b0, b1, b2, b3, b4⟩ := before1 V c t
  show iprop((dat1 V c).Φ 0 ∗ _ ∗ (∃ d, owns (c : Thread nD τ) (st1_0 t) fullShare ((dat1 V c).before 0 t d)) ∗ (∃ d, owns (c : Thread nD τ) (st1_1 t) fullShare ((dat1 V c).before 1 t d))
      ∗ (∃ d, owns (c : Thread nD τ) (st1_2 t) fullShare ((dat1 V c).before 2 t d)) ∗ (∃ d, owns (c : Thread nD τ) (st1_3 t) fullShare ((dat1 V c).before 3 t d))
      ∗ (∃ d, owns (c : Thread nD τ) (st1_4 t) fullShare ((dat1 V c).before 4 t d)) ∗ (∃ d, owns (c : Thread nD τ) (st1_5 t) fullShare ((dat1 V c).before 5 t d)))
    ⊢ wp frame _ _ _ fun _ => iprop((dat1 V c).Φ 0 ∗ _ ∗ owns (c : Thread nD τ) (st1_0 t) fullShare (in1 V t 0) ∗ owns (c : Thread nD τ) (st1_1 t) fullShare (in1 V t 1)
      ∗ owns (c : Thread nD τ) (st1_2 t) fullShare (in1 V t 2) ∗ owns (c : Thread nD τ) (st1_3 t) fullShare (in1 V t 3) ∗ owns (c : Thread nD τ) (st1_4 t) fullShare (in1 V t 4)
      ∗ owns (c : Thread nD τ) (st1_5 t) fullShare (mlpBlk V t))
  simp only [b0, b1, b2, b3, b4, owns_pt c (st1_0 t) (hstage1_0 ((cfg1.slots t 0).cast nbuf1_0)), owns_pt c (st1_1 t) (hstage1_1 ((cfg1.slots t 1).cast nbuf1_1)),
    owns_pt c (st1_2 t) (hstage1_2 ((cfg1.slots t 2).cast nbuf1_2)), owns_pt c (st1_3 t) (hstage1_3 ((cfg1.slots t 3).cast nbuf1_3)),
    owns_pt c (st1_4 t) (hstage1_4 ((cfg1.slots t 4).cast nbuf1_4)), owns_pt c (st1_5 t) (hstage1_5 ((cfg1.slots t 5).cast nbuf1_5))]
  iintro ⟨HR, HO, ⟨%d0, %f0, %h0, H0⟩, ⟨%d1, %f1, %h1, H1⟩, ⟨%d2, %f2, %h2, H2⟩, ⟨%d3, %f3, %h3, H3⟩, ⟨%d4, %f4, %h4, H4⟩, ⟨%d5, %f5, -, H5⟩⟩
  iapply point1 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4)) (st1_5 t) (hstage1_5 ((cfg1.slots t 5).cast nbuf1_5)) f0 f1 f2 f3 f4 f5 Set.univ
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, ⟨%g5, %hg5, H5⟩⟩
  isplitl [HR]; · iexact HR
  isplitl [HO]; · iexact HO
  isplitl [H0]; · iexists f0; isplitr; swap; (· iexact H0); ipureintro; exact h0
  isplitl [H1]; · iexists f1; isplitr; swap; (· iexact H1); ipureintro; exact h1
  isplitl [H2]; · iexists f2; isplitr; swap; (· iexact H2); ipureintro; exact h2
  isplitl [H3]; · iexists f3; isplitr; swap; (· iexact H3); ipureintro; exact h3
  isplitl [H4]; · iexists f4; isplitr; swap; (· iexact H4); ipureintro; exact h4
  iexists g5; isplitr; swap; (· iexact H5)
  ipureintro
  rw [hg5, h0, h1, h2, h3, h4]; rfl

/-! ## The output array -/

/-- The output array: row `512 t + r` is row `r` of the block of point `t`. -/
def mlpArr : S2048x1.Idx → F .f32 := fun x =>
  mlpBlk V ⟨(x 0).val / 512, by have : (x 0).val < 2048 := (x 0).isLt; show _ < grid1.N; rw [N_1]; omega⟩
    (ix2 ⟨(x 0).val % 512, Nat.mod_lt _ (by decide)⟩ (x 1))

theorem index1_5 : ∀ t : Fin grid1.N, win1_5.index t 0 = t.val ∧ win1_5.index t 1 = 0 := by decide +kernel

theorem emb1_5 (t : Fin grid1.N) (y : S512x1.Idx) :
    ((((win1_5.blk t).view.emb y : S2048x1.Idx) 0).val = t.val * 512 + (y 0).val) ∧ ((((win1_5.blk t).view.emb y : S2048x1.Idx) 1).val = (y 1).val) := by
  obtain ⟨h0, h1⟩ := index1_5 t
  refine ⟨(Pipeline.Window.rect_emb_val win1_5 t y 0).trans ?_, (Pipeline.Window.rect_emb_val win1_5 t y 1).trans ?_⟩
  · rw [h0]; rfl
  · rw [h1]; show 0 * 1 + (y 1).val = _; omega

/-- The output array after the region. -/
theorem arr1 (c : Dev nD) : ((dat1 V c).arrAt 5 cfg1.N : S2048x1.Idx → F .f32) = mlpArr V := by
  refine Dat.arrAt_eq_of_covers (dat1 V c) 5 (mlpArr V) (by decide +kernel) fun t hf y => ?_
  obtain ⟨h0, h1⟩ := emb1_5 t y
  have hy : ((y : S512x1.Idx) 0).val < 512 := (y 0).isLt
  show mlpBlk V t y = mlpArr V ((win1_5.blk t).view.emb y)
  unfold mlpArr
  have a1 : (((win1_5.blk t).view.emb y : S2048x1.Idx) 0).val / 512 = t.val := by omega
  have a2 : (((win1_5.blk t).view.emb y : S2048x1.Idx) 0).val % 512 = (y 0).val := by omega
  have key : ∀ (t' : Fin cfg1.N) (y' : S512x1.Idx), t = t' → y = y' → mlpBlk V t y = mlpBlk V t' y' := by
    rintro _ _ rfl rfl; rfl
  refine key _ _ (Fin.ext a1.symm) (funext fun a => Fin.ext ?_)
  match a with
  | ⟨0, _⟩ => exact a2.symm
  | ⟨1, _⟩ => exact h1.symm

end Values

end Cert.KernelIdeal.Own

end
-- ==== Proof.Tail.lean ====
/-
  The host stretch between the two kernels reads the embeddings from row 64 on.

  Run from two valuations that agree but for the first 64 rows of the first kernel's output, it leaves two valuations
  that agree on every buffer but that output.
-/
module

public import proofs.«01_k».proof.Proof.Gen.KernelIdeal.Regions

@[expose] public section

noncomputable section

namespace Cert.KernelIdeal.Own

open Cert.KernelIdeal Cert.KernelIdeal.Gen
open Idealize.ShloMosaic
open Idealize.ShloMosaic.TcCoe Idealize.ShloMosaic.StableHlo Idealize.ShloMosaic.Tactic

variable {F : FTy → Type} [FloatOps F]

/-- The embeddings without their first 64 rows. -/
def dropRows (o : S2112x256.Idx → F .f32) : S2048x256.Idx → F .f32 :=
  extractStridedSlice S2048x256 ![64, 0] o slices_S2112x256_S2048x256_64_0

omit [FloatOps F] in
theorem dropRows_congr {o o' : S2112x256.Idx → F .f32} (h : ∀ x, 64 ≤ (x 0).val → o x = o' x) : dropRows o = dropRows o' :=
  funext fun j => h _ (Nat.le_add_right 64 _)

variable (V : Valuation τ sig (Elt F))

theorem tail_v24 : StableHlo.after hostOps1 V main_v24 = dropRows (V main_v23) := by
  simp only [hostOps1]; after_results; rfl
theorem tail_v25 : StableHlo.after hostOps1 V main_v25 = truncf .bf16 (V main_arg5) := by
  simp only [hostOps1]; after_results
theorem tail_v26 : StableHlo.after hostOps1 V main_v26 = shapeCast S1x64 (V main_arg6) shapeCasts_S64_S1x64 := by
  simp only [hostOps1]; after_results; rfl
theorem tail_v27 : StableHlo.after hostOps1 V main_v27 = truncf .bf16 (V main_arg7) := by
  simp only [hostOps1]; after_results
theorem tail_v28 : StableHlo.after hostOps1 V main_v28 = shapeCast S1x1 (V main_arg8) shapeCasts_S1_S1x1 := by
  simp only [hostOps1]; after_results; rfl

/-- The buffers the host stretch and the second kernel see. -/
abbrev tailRefs : Finset (DevRef τ sig) := Pipeline.ucRefs τ sig \ {Proc.devRef .tc main_v23}

/-- From valuations that agree off the first kernel's output, and there from row 64 on. -/
theorem tail_agree (V V' : Valuation τ sig (Elt F)) (h : ∀ r : Ref sig .tc, r ≠ main_v23 → V r = V' r)
    (h23 : ∀ x : S2112x256.Idx, 64 ≤ (x 0).val → (V main_v23 : S2112x256.Idx → F .f32) x = (V' main_v23 : S2112x256.Idx → F .f32) x) :
    ∀ d ∈ tailRefs, StableHlo.after hostOps1 V d = StableHlo.after hostOps1 V' d := by
  intro d hd
  obtain ⟨hd, hne⟩ := Finset.mem_sdiff.mp hd
  obtain ⟨r, -, rfl⟩ := Finset.mem_map.mp (Finset.mem_filter.mp hd).1
  have hr : r ≠ main_v23 := fun e => hne (by rw [e]; exact Finset.mem_singleton_self _)
  show StableHlo.after hostOps1 V r = StableHlo.after hostOps1 V' r
  by_cases hw : r ∈ hostOps1_W
  · simp only [hostOps1_W, List.mem_cons, List.not_mem_nil, or_false] at hw
    rcases hw with rfl | rfl | rfl | rfl | rfl
    · rw [tail_v24, tail_v24]; exact dropRows_congr h23
    · rw [tail_v25, tail_v25, h main_arg5 (by decide)]
    · rw [tail_v26, tail_v26, h main_arg6 (by decide)]
    · rw [tail_v27, tail_v27, h main_arg7 (by decide)]
    · rw [tail_v28, tail_v28, h main_arg8 (by decide)]
  · rw [StableHlo.after_of_writes_sub hostOps1 V hostOps1_writes hw, StableHlo.after_of_writes_sub hostOps1 V' hostOps1_writes hw, h r hr]

end Cert.KernelIdeal.Own

end
-- ==== Proof.Run.lean ====
/-
  The whole program: the host prefix, the first kernel, the host stretch between, the second kernel.

  The contents of the buffers run `V3` (after the prefix), `U4` (the first kernel's output at `embArr`), `U5` (after the
  stretch between), `U6` (the second kernel's output at `mlpArr`).  The first 64 rows of the first kernel's output are
  not known; between the kernels the output is held at some contents that agree with `embArr` from row 64 on, and after
  the stretch between it is given up.
-/
module

public import proofs.«01_k».proof.Proof.Array0
public import proofs.«01_k».proof.Proof.Region1
public import proofs.«01_k».proof.Proof.Tail
public import Idealize.ShloMosaic.Lib.Pipeline.RegionsOwned
public import Idealize.ShloMosaic.Lib.StableHlo.RunHlo

@[expose] public section

noncomputable section

namespace Cert.KernelIdeal.Own

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat RDat HostSeg)
open Cert.Own

variable {F : FTy → Type} [FloatOps F]

local notation "𝕄" => MT nD τ sig Unit (Elt F) ℕ (UR nD τ) ℕ

/-- The rounds algebra inside the program's. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The one index is assigned at every cell of a TensorCore. -/
abbrev Lx : GSem nD τ sig → Finset Unit := fun g => if g.1.2 = .tc then {()} else ∅
/-- There is one level. -/
abbrev lvx : GSem nD τ sig → Unit → ℕ := fun _ _ => 0

/-- What rides along the buffers: the core owing nothing. -/
abbrev rest (c : Dev nD) : sProp 𝕄 := iprop((∃ Wd, owes (c : Thread nD τ) (0 : CellTallies nD τ sig Unit) Wd) ∗ emp)

variable (m : (ℓ : Loc nD τ sig) → Buf (Elt F) ℓ)

/-! ## The contents -/

/-- After the first kernel, its whole output taken at `embArr`. -/
def U4 (c : Dev nD) : Valuation τ sig (Elt F) := Function.update (V3 m c) (Proc.devRef .tc main_v23) (embArr (V3 m c))
/-- After the stretch between. -/
def U5 (c : Dev nD) : Valuation τ sig (Elt F) := StableHlo.after hostOps1 (U4 m c)
/-- After the second kernel. -/
def U6 (c : Dev nD) : Valuation τ sig (Elt F) := Function.update (U5 m c) (Proc.devRef .tc main_v29) (mlpArr (U5 m c))

/-- The contents the first kernel's output may have. -/
abbrev Out0 (c : Dev nD) : Type := {o : S2112x256.Idx → F .f32 // ∀ x, 64 ≤ (x 0).val → o x = embArr (V3 m c) x}
/-- After the first kernel, its output at `o`. -/
def W4 (c : Dev nD) (o : Out0 m c) : Valuation τ sig (Elt F) := Function.update (V3 m c) (Proc.devRef .tc main_v23) o.1

theorem W4_tail (c : Dev nD) (o : Out0 m c) : ∀ d ∈ tailRefs, StableHlo.after hostOps1 (W4 m c o) d = U5 m c d := by
  refine tail_agree _ _ (fun r hr => ?_) fun x hx => ?_
  · have hne := (StableHlo.devRef_ne_of_ne hr : (Proc.devRef .tc r : DevRef τ sig) ≠ Proc.devRef .tc main_v23)
    show W4 m c o (Proc.devRef .tc r) = U4 m c (Proc.devRef .tc r)
    unfold W4 U4
    rw [Function.update_of_ne hne, Function.update_of_ne hne]
  · show (W4 m c o (Proc.devRef .tc main_v23) : S2112x256.Idx → F .f32) x = (U4 m c (Proc.devRef .tc main_v23) : S2112x256.Idx → F .f32) x
    unfold W4 U4
    rw [Function.update_self, Function.update_self]
    exact o.2 x hx

/-! ## The proof data of both kernels -/

/-- Each kernel's data at the contents it is entered from. -/
def pd : (p : Fin 2) → (c : Dev nD) → Dat τ (Elt F) Unit ℕ (UR nD τ) ℕ (cfgs p) c
  | ⟨0, _⟩, c => dat0 (V3 m c) c
  | ⟨1, _⟩, c => dat1 (U5 m c) c
/-- The windows held to a predicate. -/
def pfg : (p : Fin 2) → Fin (cfgs p).W → Bool
  | ⟨0, _⟩ => fg0
  | ⟨1, _⟩ => fg1
/-- Those predicates. -/
def prl : (p : Fin 2) → (c : Dev nD) → (w : Fin (cfgs p).W) → Fin (cfgs p).N → (((cfgs p).win w).block.Idx → Elt F ((cfgs p).win w).elt) → Prop
  | ⟨0, _⟩, c => rel0 (V3 m c)
  | ⟨1, _⟩, _ => rel1

theorem cut (p : Fin 2) : Pipeline.LevelCut (pcfgs (F := F)) adm () Lx lvx p (fun _ : Dev nD => (0 : CellTallies nD τ sig Unit)) (fun _ => 0) where
  hι _ _ _ := by show () ∈ (if Proc.tc = .tc then {()} else ∅); rw [if_pos rfl]; exact Finset.mem_singleton_self _
  hιb _ _ _ := le_refl _
  hD _ _ _ h := absurd h (Nat.lt_irrefl 0)

theorem hin0 (V : Valuation τ sig (Elt F)) (c : Dev nD) : (Pipeline.scopedRest spec0 c : sProp 𝕄) ⊢ (dat0 V c).Φ 0 := by
  show _ ⊢ iprop(scratchAt V c 0 ∗ others0 c)
  rw [scopedRest0_eq c]
  unfold scratchAt others0 pt
  iintro ⟨⟨%f, H⟩, HR⟩
  isplitl [H]
  · iexists f; isplitr; swap; (· iexact H)
    ipureintro
    intro u hu; exact absurd hu (Nat.succ_ne_zero _)
  iexact HR

theorem hout0 (V : Valuation τ sig (Elt F)) (c : Dev nD) : (dat0 V c).Φ (Fin.last cfg0.N) ⊢ (Pipeline.scopedRest spec0 c : sProp 𝕄) := by
  show iprop(scratchAt V c cfg0.N ∗ others0 c) ⊢ _
  rw [scopedRest0_eq c]
  unfold scratchAt others0 pt
  iintro ⟨⟨%f, -, H⟩, HR⟩
  isplitl [H]; · iexists f; iexact H
  iexact HR

theorem unscoped0 : ∀ w : Fin 8, (Pipeline.arrRef spec0 w).isScoped = false := by decide
theorem unscoped1 : ∀ w : Fin 6, (Pipeline.arrRef spec1 w).isScoped = false := by decide
theorem out0 : ∀ w : Fin 8, w ≠ 7 → (win0 w).isOut = false ∧ Pipeline.arrRef spec0 w ≠ main_v23 := by decide
theorem out1 : ∀ w : Fin 6, w ≠ 5 → (win1 w).isOut = false ∧ Pipeline.arrRef spec1 w ≠ main_v29 := by decide
theorem arr_ne1 : ∀ w : Fin 6, Pipeline.arrRef spec1 w ≠ main_v23 := by decide

theorem arrs0 : Pipeline.arrRefs (τ := τ) spec0 ⊆ Pipeline.ucRefs τ sig := Pipeline.arrRefs_sub_ucRefs _ unscoped0

theorem arrs1 : Pipeline.arrRefs (τ := τ) spec1 ⊆ tailRefs := by
  intro d hd
  refine Finset.mem_sdiff.mpr ⟨Pipeline.arrRefs_sub_ucRefs _ unscoped1 hd, fun h => ?_⟩
  obtain ⟨r, hr, rfl⟩ := Finset.mem_map.mp hd
  obtain ⟨w, -, rfl⟩ := Finset.mem_image.mp hr
  exact StableHlo.devRef_ne_of_ne (arr_ne1 w) (Finset.mem_singleton.mp h)

theorem mem_arrs0 : (Proc.devRef .tc main_v23 : DevRef τ sig) ∈ Pipeline.arrRefs (τ := τ) spec0 :=
  Finset.mem_map_of_mem _ (Finset.mem_image.mpr ⟨7, Finset.mem_univ _, rfl⟩)
theorem mem_arrs1 : (Proc.devRef .tc main_v29 : DevRef τ sig) ∈ Pipeline.arrRefs (τ := τ) spec1 :=
  Finset.mem_map_of_mem _ (Finset.mem_image.mpr ⟨5, Finset.mem_univ _, rfl⟩)

theorem share0 (V : Valuation τ sig (Elt F)) (c : Dev nD) (w : Fin cfg0.W) : (dat0 V c).share w = fullShare := by
  unfold Dat.share; split <;> rfl
theorem share1 (V : Valuation τ sig (Elt F)) (c : Dev nD) (w : Fin cfg1.W) : (dat1 V c).share w = fullShare := by
  unfold Dat.share; split <;> rfl

theorem off0 (V : Valuation τ sig (Elt F)) (o : S2112x256.Idx → F .f32) (d : DevRef τ sig) (hd : d ∈ Pipeline.ucRefs τ sig \ Pipeline.arrRefs spec0) :
    Function.update V (Proc.devRef .tc main_v23) o d = V d :=
  Function.update_of_ne (fun e => (Finset.mem_sdiff.mp hd).2 (by rw [e]; exact mem_arrs0)) _ _
theorem off1 (V : Valuation τ sig (Elt F)) (o : S2048x1.Idx → F .f32) (d : DevRef τ sig) (hd : d ∈ tailRefs \ Pipeline.arrRefs spec1) :
    Function.update V (Proc.devRef .tc main_v29) o d = V d :=
  Function.update_of_ne (fun e => (Finset.mem_sdiff.mp hd).2 (by rw [e]; exact mem_arrs1)) _ _

theorem hin1 (V : Valuation τ sig (Elt F)) (c : Dev nD) : (Pipeline.scopedRest spec1 c : sProp 𝕄) ⊢ (dat1 V c).Φ 0 := .rfl
theorem hout1 (V : Valuation τ sig (Elt F)) (c : Dev nD) : (dat1 V c).Φ (Fin.last cfg1.N) ⊢ (Pipeline.scopedRest spec1 c : sProp 𝕄) := .rfl

/-- The arrays after the first kernel are its inputs as entered and its output. -/
theorem arrays0 (V : Valuation τ sig (Elt F)) (c : Dev nD) (A : (w : Fin cfg0.W) → Buf (Elt F) ((cfg0.win w).arr.view.loc (c.tc : Thread nD τ)))
    (hA : ∀ w, ((dat0 V c).toRRel fg0 (rel0 V)).ArrAt w cfg0.N (A w)) (w : Fin cfg0.W) :
    A w = Function.update V (Proc.devRef .tc main_v23) (A 7) (Proc.devRef .tc (Pipeline.arrRef spec0 w)) := by
  by_cases hw : w = 7
  · subst hw; exact (Function.update_self (β := fun d : DevRef τ sig => d.ty.Contents (Elt F)) _ _ V).symm
  · obtain ⟨ho, hne⟩ := out0 w hw
    have h := hA w
    rw [RDat.ArrAt_in _ w ho] at h
    rw [Function.update_of_ne (StableHlo.devRef_ne_of_ne hne)]
    exact h

/-- The arrays after the second kernel are its inputs as entered and its output. -/
theorem arrays1 (V : Valuation τ sig (Elt F)) (c : Dev nD) (A : (w : Fin cfg1.W) → Buf (Elt F) ((cfg1.win w).arr.view.loc (c.tc : Thread nD τ)))
    (hA : ∀ w, ((dat1 V c).toRRel fg1 rel1).ArrAt w cfg1.N (A w)) (w : Fin cfg1.W) :
    A w = Function.update V (Proc.devRef .tc main_v29) (mlpArr V) (Proc.devRef .tc (Pipeline.arrRef spec1 w)) := by
  by_cases hw : w = 5
  · subst hw
    have h : A 5 = (dat1 V c).arrAt 5 cfg1.N := (Dat.toR_arrAt_iff (dat1 V c) 5 cfg1.N (A 5)).mp (hA 5)
    have e : Function.update V (Proc.devRef .tc main_v29) (mlpArr V) (Proc.devRef .tc main_v29) = mlpArr V := Function.update_self _ _ _
    exact (h.trans (arr1 V c)).trans e.symm
  · obtain ⟨ho, hne⟩ := out1 w hw
    have h := hA w
    rw [RDat.ArrAt_in _ w ho] at h
    rw [Function.update_of_ne (StableHlo.devRef_ne_of_ne hne)]
    exact h

set_option backward.isDefEq.respectTransparency.types false in
/-- The first kernel as an item of the program. -/
def R0 : RDat.RegionSeg (pcfgs (F := F)) adm (relData (pcfgs (F := F)) adm (pd m) pfg (prl m)) () defs₀ Variants.none Lx lvx 0 :=
  relSeg (pcfgs (F := F)) adm (pd m) () defs₀ Variants.none Lx lvx 0 (fun _ => 0) pfg (prl m) (Pipeline.ucRefs τ sig)
    arrs0 launch0.toP rfl (fun c => body0 (V3 m c) c) (fun _ _ => rfl) (fun _ => rfl)
    (fun c w => share0 (V3 m c) c w) (fun c => hin0 (V3 m c) c) (fun c => hout0 (V3 m c) c) (fun _ => 0) (cut 0) (fun _ => iprop(emp))
    (V3 m) (fun _ _ => rfl) (fun c A => Function.update (V3 m c) (Proc.devRef .tc main_v23) (A 7))
    (fun c A hA w => arrays0 (V3 m c) c A hA w)
    (fun c A d hd => off0 (V3 m c) (A 7) d hd)

set_option backward.isDefEq.respectTransparency.types false in
/-- The second kernel as an item of the program. -/
def R1 : RDat.RegionSeg (pcfgs (F := F)) adm (relData (pcfgs (F := F)) adm (pd m) pfg (prl m)) () defs₀ Variants.none Lx lvx 1 :=
  relSeg (pcfgs (F := F)) adm (pd m) () defs₀ Variants.none Lx lvx 1 (fun _ => 0) pfg (prl m) tailRefs
    arrs1 launch1.toP rfl (fun c => body1 (U5 m c) c) (fun _ _ => rfl) (fun _ => rfl)
    (fun c w => share1 (U5 m c) c w) (fun c => hin1 (U5 m c) c) (fun c => hout1 (U5 m c) c) (fun _ => 0) (cut 1) (fun _ => iprop(emp))
    (U5 m) (fun _ _ => rfl) (fun c _ => U6 m c)
    (fun c A hA w => arrays1 (U5 m c) c A hA w)
    (fun c A d hd => off1 (U5 m c) (mlpArr (U5 m c)) d hd)

/-- The stretch between, from the first kernel's output at some contents. -/
def segT : HostSeg (Ix := Unit) (Name := ℕ) (U := UR nD τ) (Lvl := ℕ) (pcfgs (F := F)) defs₀ Variants.none Lx lvx :=
  HostSeg.ofOpsEx (pcfgs (F := F)) defs₀ Variants.none Lx lvx (Γ := Out0 m) (Pipeline.ucRefs τ sig) hostOps1
    (fun op h => Pipeline.sub_ucRefs op ((List.forall_iff_forall_mem.mp hostOps1_sub) op h))
    (fun op h => (List.forall_iff_forall_mem.mp hostOps1_fresh) op h) (W4 m) rest

/-- What the first kernel leaves is what the stretch between is entered from. -/
theorem link0 (c : Dev nD) : (R0 m).post c ⊢ (segT m).pre c := by
  show iprop(∃ A : (w : Fin cfg0.W) → Buf (Elt F) ((cfg0.win w).arr.view.loc (c.tc : Thread nD τ)),
      ⌜∀ w, ((dat0 (V3 m c) c).toRRel fg0 (rel0 (V3 m c))).ArrAt w cfg0.N (A w)⌝ ∗ StableHlo.held (c.tc : Thread nD τ) (Pipeline.ucRefs τ sig) (Function.update (V3 m c) (Proc.devRef .tc main_v23) (A 7))
      ∗ (∃ Wd, owes (c : Thread nD τ) (0 : CellTallies nD τ sig Unit) Wd) ∗ emp) ⊢
    iprop((∃ γ : Out0 m c, StableHlo.held (c.tc : Thread nD τ) (Pipeline.ucRefs τ sig) (W4 m c γ)) ∗ rest c)
  iintro ⟨%A, %hA, H, HR⟩
  isplitl [H]
  · iexists ⟨A 7, fun x hx => arr0 (V3 m c) c (A 7) (hA 7) x hx⟩
    iexact H
  iexact HR

/-- What the stretch between leaves, less the first kernel's output, is what the second kernel is entered from. -/
theorem link1 (c : Dev nD) : (segT m).post c ⊢ (R1 m).pre c := by
  show iprop((∃ γ : Out0 m c, StableHlo.held (c.tc : Thread nD τ) (Pipeline.ucRefs τ sig) (StableHlo.after hostOps1 (W4 m c γ))) ∗ rest c)
    ⊢ iprop(StableHlo.held (c.tc : Thread nD τ) tailRefs (U5 m c) ∗ (∃ Wd, owes (c : Thread nD τ) (0 : CellTallies nD τ sig Unit) Wd) ∗ emp)
  have hdrop : ∀ γ : Out0 m c, (StableHlo.held (c.tc : Thread nD τ) (Pipeline.ucRefs τ sig) (StableHlo.after hostOps1 (W4 m c γ)) : sProp 𝕄)
      ⊢ StableHlo.held (c.tc : Thread nD τ) tailRefs (U5 m c) := fun γ => by
    rw [← StableHlo.held_congr (c.tc : Thread nD τ) (W4_tail m c γ),
      StableHlo.held_sub_split (c.tc : Thread nD τ) (S := Pipeline.ucRefs τ sig) (T := tailRefs) Finset.sdiff_subset (StableHlo.after hostOps1 (W4 m c γ))]
    iintro ⟨H, -⟩
    iexact H
  iintro ⟨⟨%γ, H⟩, HR⟩
  isplitl [H]
  · iapply (hdrop γ); iexact H
  iexact HR

/-- What the second kernel leaves. -/
theorem link2 (c : Dev nD) : (R1 m).post c ⊢ iprop(StableHlo.held (c.tc : Thread nD τ) tailRefs (U6 m c)
    ∗ (∃ Wd, owes (c : Thread nD τ) (0 : CellTallies nD τ sig Unit) Wd)) := by
  show iprop(∃ A : (w : Fin cfg1.W) → Buf (Elt F) ((cfg1.win w).arr.view.loc (c.tc : Thread nD τ)),
      ⌜∀ w, ((dat1 (U5 m c) c).toRRel fg1 rel1).ArrAt w cfg1.N (A w)⌝ ∗ StableHlo.held (c.tc : Thread nD τ) tailRefs (U6 m c)
      ∗ (∃ Wd, owes (c : Thread nD τ) (0 : CellTallies nD τ sig Unit) Wd) ∗ emp) ⊢ _
  iintro ⟨%A, -, H, HO, -⟩
  isplitl [H]; · iexact H
  iexact HO

/-! ## The run -/

/-- The items of the program, in order. -/
abbrev items : List (RDat.Seg (pcfgs (F := F)) adm (relData (pcfgs (F := F)) adm (pd m) pfg (prl m)) () defs₀ Variants.none Lx lvx) :=
  [.host (seg0 m Variants.none Lx lvx fun _ => rest), .host (seg1 m Variants.none Lx lvx fun _ => rest), .host (seg2 m Variants.none Lx lvx fun _ => rest),
    .region (R0 m), .host (segT m), .region (R1 m)]

/-- The ghost state the launch starts from. -/
def u₀ : UR nD τ := Rounds.initOf (Pipeline.cells cfgs cellOf_inj) (Pipeline.launchToks cfgs cellOf_inj)

/-- A buffer the tail holds ends at `U6`. -/
abbrev Ends (c : Dev nD) (s : MemSt nD τ sig (Elt F)) : Prop := ∀ r : Ref sig .tc, Proc.devRef .tc r ∈ tailRefs → s.mem ((c.tc : Thread nD τ).loc r) = U6 m c r

set_option backward.isDefEq.respectTransparency.types false in
/-- Every execution of the program ends, with every counter at zero and the buffers of `tailRefs` at `U6`. -/
theorem run (ρ : Dev nD → PrngReg) :
    θ_run defs (onTc (τ := τ) (main (F := F))) ⟨m, fun _ => 0, ρ⟩ (fun r => (∀ c : Dev nD, Ends m c r.2) ∧ r.2.sem = fun _ => 0) := by
  refine RDat.θ_run_regions_kit_dev_sems (pcfgs (F := F)) adm (relData (pcfgs (F := F)) adm (pd m) pfg (prl m)) () cellOf_inj EP defs₀ Variants.none Lx lvx m ρ main
    (fun _ => items m)
    (fun c Q => by
      rewrite [main_chain c, RDat.Seg.run_eq_chain,
        show (items m).map RDat.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()) ] from rfl]
      dsimp (config := { failIfUnchanged := false }) only
      exact .rfl)
    (fun c => by simp only [items, RDat.Seg.pipes_host, RDat.Seg.pipes_region, RDat.Seg.pipes_nil]; decide) (fun _ => 0) (fun g hg => if_neg hg)
    (fun _ => iprop(emp)) u₀ ?_
    (T₀ := fun c => iprop(StableHlo.held (c : Thread nD τ) (Pipeline.ucRefs τ sig) (V0 m c) ∗ rest c))
    (Tₙ := fun c => StableHlo.held (c : Thread nD τ) tailRefs (U6 m c))
    (hch := fun c => ⟨.rfl, .rfl, .rfl, .rfl, link0 m c, link1 m c, link2 m c⟩)
    (hinit := ?_) (QY := Ends m)
    (hfin := fun c s' => ?_) (hQ := fun _ h hz => ⟨h, funext fun g => hz g (.inr (regions_no_unscoped g.2))⟩)
  · iintro Hu
    imodintro
    isplitl [Hu]; · iapply (show (ownU u₀ : sProp 𝕄) ⊢ BI.own (EP (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ rest c) : sProp 𝕄) := by
      refine bigSep_mono fun c _ => ?_
      have hb : (unscopedBufs c (fun b => m ((c.tc : Thread nD τ).loc b)) : sProp 𝕄) ⊢ StableHlo.held (c : Thread nD τ) (Pipeline.ucRefs τ sig) (V0 m c) := by
        rw [← Pipeline.unscopedBufs_held (Ix := Unit) (Name := ℕ) (U := UR nD τ) (Lvl := ℕ) c (V0 m c)]
      refine (sep_mono hb .rfl).trans ?_
      iintro ⟨H, -, HO, -⟩
      isplitl [H]; · iexact H
      isplitl [HO]; · iexists _; iexact HO
      iempintro
    iintro ⟨H, -⟩
    imodintro
    iapply hsplit; iexact H
  · unfold StableHlo.held
    iintro ⟨Hh, HSI⟩
    ihave Hr := (pointsTo_read_all tailRefs (fun b => ((c : Thread nD τ).1, b)) (U6 m c) s') $$ [Hh HSI]
    · isplitl [Hh] <;> iassumption
    icases Hr with ⟨%h, HSI⟩
    imodintro
    isplitr
    · ipureintro; exact fun r hr => h (Proc.devRef .tc r) hr
    · iexact HSI

/-! ## What ends where -/

theorem mem_tail : ∀ r ∈ ([main_arg0, main_arg1, main_arg2, main_arg3, main_arg4, main_arg5, main_arg6, main_arg7, main_arg8, main_v24, main_v29] : List (Ref sig .tc)),
    r.isScoped = false ∧ r ≠ main_v23 := by decide

theorem mem_tailRefs (r : Ref sig .tc) (hs : r.isScoped = false) (hr : r ≠ main_v23) : (Proc.devRef .tc r : DevRef τ sig) ∈ tailRefs :=
  Finset.mem_sdiff.mpr ⟨Finset.mem_filter.mpr ⟨StableHlo.devRef_mem_tcRefs r, fun h => Bool.false_ne_true (hs.symm.trans h)⟩,
    fun h => StableHlo.devRef_ne_of_ne hr (Finset.mem_singleton.mp h)⟩

/-- A buffer nothing writes ends as launched. -/
theorem U6_arg (c : Dev nD) (r : Ref sig .tc) (h29 : r ≠ main_v29) (h1 : r ∉ hostOps1_W) (h23 : r ≠ main_v23) (h02 : r ∉ hostOps0_2_W) (h01 : r ∉ hostOps0_1_W)
    (h0 : r ∉ hostOps0_W) : U6 m c r = m ((c : Thread nD τ).loc r) := by
  have e6 : U6 m c r = U5 m c r := Function.update_of_ne (StableHlo.devRef_ne_of_ne h29) _ _
  have e5 : U5 m c r = U4 m c r := StableHlo.after_of_writes_sub hostOps1 _ hostOps1_writes h1
  have e4 : U4 m c r = V3 m c r := Function.update_of_ne (StableHlo.devRef_ne_of_ne h23) _ _
  rw [e6, e5, e4, V3_of m c r h02, V2_of m c r h01, V1_of m c r h0]

theorem U6_v29 (c : Dev nD) : (U6 m c main_v29 : S2048x1.Idx → F .f32) = mlpArr (U5 m c) := Function.update_self _ _ _

theorem U6_v24 (c : Dev nD) : (U6 m c main_v24 : S2048x256.Idx → F .f32) = dropRows (embArr (V3 m c)) := by
  have e6 : U6 m c main_v24 = U5 m c main_v24 := Function.update_of_ne (StableHlo.devRef_ne_of_ne (by decide)) _ _
  rw [e6]
  show StableHlo.after hostOps1 (U4 m c) main_v24 = _
  rw [tail_v24]
  have e4 : (U4 m c main_v23 : S2112x256.Idx → F .f32) = embArr (V3 m c) := Function.update_self _ _ _
  rw [e4]

/-- The run of the program, its results named. -/
theorem run_values (ρ : Dev nD → PrngReg) :
    θ_run defs (onTc (τ := τ) (main (F := F))) ⟨m, fun _ => 0, ρ⟩ (fun r => (∀ c : Dev nD,
      (r.2.mem ((c.tc : Thread nD τ).loc main_v29) = mlpArr (U5 m c)
      ∧ r.2.mem ((c.tc : Thread nD τ).loc main_v24) = dropRows (embArr (V3 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine θ_run_mono (run m ρ) fun r h => ⟨fun c => ?_, h.2⟩
  have e := h.1 c
  have arg : ∀ r' ∈ ([main_arg0, main_arg1, main_arg2, main_arg3, main_arg4, main_arg5, main_arg6, main_arg7, main_arg8] : List (Ref sig .tc)),
      r.2.mem ((c.tc : Thread nD τ).loc r') = m ((c.tc : Thread nD τ).loc r') := by
    intro r' hr'
    have hm := mem_tail r' (by revert r'; decide)
    have hn : r' ≠ main_v29 ∧ r' ∉ hostOps1_W ∧ r' ≠ main_v23 ∧ r' ∉ hostOps0_2_W ∧ r' ∉ hostOps0_1_W ∧ r' ∉ hostOps0_W := by
      clear hm; revert r'; decide
    exact (e r' (mem_tailRefs r' hm.1 hm.2)).trans (U6_arg m c r' hn.1 hn.2.1 hn.2.2.1 hn.2.2.2.1 hn.2.2.2.2.1 hn.2.2.2.2.2)
  exact ⟨⟨(e main_v29 (mem_tailRefs main_v29 (by decide) (by decide))).trans (U6_v29 m c), (e main_v24 (mem_tailRefs main_v24 (by decide) (by decide))).trans (U6_v24 m c)⟩,
    arg _ (by decide), arg _ (by decide), arg _ (by decide), arg _ (by decide), arg _ (by decide), arg _ (by decide), arg _ (by decide), arg _ (by decide), arg _ (by decide)⟩

end Cert.KernelIdeal.Own

end
-- ==== Proof.Frames.lean ====
/-
  The frame claims: each program runs to the end, leaves its arguments as launched and every counter at zero.

  The kernel's follow from `run_values`, proved over any float type; the reference's is its generated run, the reference
  having no semaphore.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.SameProgram
public import proofs.«01_k».proof.Proof.Run

@[expose] public section

noncomputable section

namespace Cert.Own

open Idealize.ShloMosaic Idealize.SL.Sem Idealize.ShloMosaic.TcCoe

/-- The kernel as idealised. -/
theorem frame_ideal : Cert.quiescent_KernelIdeal (hKernelIdeal := Cert.KernelIdeal.Gen.facts) := fun m g _ =>
  θ_run_mono (Cert.KernelIdeal.Own.run_values (F := Ideal) m g) fun _ h => ⟨fun c => (h.1 c).2, h.2⟩

/-- The kernel on bit-exact floats. -/
theorem frame_kernel : Cert.quiescent_Kernel (hKernel := Cert.Kernel.Gen.facts) := fun m g _ => by
  rw [same_defs, same_main]
  exact θ_run_mono (Cert.KernelIdeal.Own.run_values (F := Bits) m g) fun _ h => ⟨fun c => (h.1 c).2, h.2⟩

/-- The reference. -/
theorem frame_reference : Cert.quiescent_ReferenceIdeal (hReferenceIdeal := Cert.ReferenceIdeal.Gen.facts) := fun m g _ =>
  θ_run_mono (Cert.ReferenceIdeal.Value.run (F := Ideal) m g) fun r h => ⟨fun c => (h c).2.2, sem_eq_zero_of_no_sems (by decide) r.2⟩

end Cert.Own

end
-- ==== Proof.Blocks.lean ====
/-
  The blocks the two kernels read, entry by entry: which entry of its array each of them is.
-/
module

public import proofs.«01_k».proof.Proof.Array0
public import proofs.«01_k».proof.Proof.Region1
public import Idealize.ShloMosaic.Lib.Pointwise

@[expose] public section

noncomputable section

namespace Cert.KernelIdeal.Own

open Cert.KernelIdeal Cert.KernelIdeal.Gen
open Idealize.ShloMosaic
open Idealize.ShloMosaic.TcCoe Idealize.ShloMosaic.Tactic

variable {F : FTy → Type} [FloatOps F]
variable (V : Valuation τ sig (Elt F))

/-! ## The first kernel -/

theorem index0_0 : ∀ t : Fin grid0.N, win0_0.index t 0 = min t.val 31 ∧ win0_0.index t 1 = 0 ∧ win0_0.index t 2 = 0 := by decide +kernel
theorem index0_1 : ∀ t : Fin grid0.N, win0_1.index t 0 = min t.val 31 ∧ win0_1.index t 1 = 0 := by decide +kernel
theorem index0_2 : ∀ t : Fin grid0.N, win0_2.index t 0 = t.val - 1 ∧ win0_2.index t 1 = 0 := by decide +kernel
theorem index0_3 : ∀ t : Fin grid0.N, win0_3.index t 0 = 0 ∧ win0_3.index t 1 = 0 := by decide +kernel
theorem index0_4 : ∀ t : Fin grid0.N, win0_4.index t 0 = 0 ∧ win0_4.index t 1 = 0 := by decide +kernel
theorem index0_5 : ∀ t : Fin grid0.N, win0_5.index t 0 = 0 ∧ win0_5.index t 1 = 0 := by decide +kernel
theorem index0_6 : ∀ t : Fin grid0.N, win0_6.index t 0 = 0 ∧ win0_6.index t 1 = 0 := by decide +kernel

theorem in0_trees (t : Fin cfg0.N) (p : Fin 64) (f n : Fin 128) (b : Fin 2048) (hb : b.val = min t.val 31 * 64 + p.val) :
    in0 V t 0 (ix3 p f n) = (V main_arg0 : S2048x128x128.Idx → F .f32) (ix3 b f n) := by
  show (V main_arg0 : S2048x128x128.Idx → F .f32) ((win0_0.blk t).view.emb (ix3 p f n)) = _
  obtain ⟨h0, h1, h2⟩ := index0_0 t
  refine congrArg _ (funext fun a => Fin.ext ((Pipeline.Window.rect_emb_val win0_0 t (ix3 p f n) a).trans ?_))
  match a with
  | ⟨0, _⟩ => exact (congrArg (fun k => k * 64 + p.val) h0).trans hb.symm
  | ⟨1, _⟩ => exact (congrArg (fun k => k * 128 + f.val) h1).trans (by show _ = f.val; omega)
  | ⟨2, _⟩ => exact (congrArg (fun k => k * 128 + n.val) h2).trans (by show _ = n.val; omega)

theorem in0_children (t : Fin cfg0.N) (p : Fin 64) (n : Fin 128) (b : Fin 2048) (hb : b.val = min t.val 31 * 64 + p.val) :
    in0 V t 1 (ix2 p n) = (V main_arg1 : S2048x128.Idx → BitVec 32) (ix2 b n) := by
  show (V main_arg1 : S2048x128.Idx → BitVec 32) ((win0_1.blk t).view.emb (ix2 p n)) = _
  obtain ⟨h0, h1⟩ := index0_1 t
  refine congrArg _ (funext fun a => Fin.ext ((Pipeline.Window.rect_emb_val win0_1 t (ix2 p n) a).trans ?_))
  match a with
  | ⟨0, _⟩ => exact (congrArg (fun k => k * 64 + p.val) h0).trans hb.symm
  | ⟨1, _⟩ => exact (congrArg (fun k => k * 128 + n.val) h1).trans (by show _ = n.val; omega)

theorem in0_valid (t : Fin cfg0.N) (p : Fin 64) (n : Fin 128) (b : Fin 2048) (hb : b.val = (t.val - 1) * 64 + p.val) :
    in0 V t 2 (ix2 p n) = (V main_v2 : S2048x128.Idx → F .f32) (ix2 b n) := by
  show (V main_v2 : S2048x128.Idx → F .f32) ((win0_2.blk t).view.emb (ix2 p n)) = _
  obtain ⟨h0, h1⟩ := index0_2 t
  refine congrArg _ (funext fun a => Fin.ext ((Pipeline.Window.rect_emb_val win0_2 t (ix2 p n) a).trans ?_))
  match a with
  | ⟨0, _⟩ => exact (congrArg (fun k => k * 64 + p.val) h0).trans hb.symm
  | ⟨1, _⟩ => exact (congrArg (fun k => k * 128 + n.val) h1).trans (by show _ = n.val; omega)

theorem in0_matrix (t : Fin cfg0.N) (y : S128x128.Idx) : in0 V t 3 y = (V main_v3 : S128x128.Idx → F .bf16) y := by
  show (V main_v3 : S128x128.Idx → F .bf16) ((win0_3.blk t).view.emb y) = _
  obtain ⟨h0, h1⟩ := index0_3 t
  refine congrArg _ (funext fun a => Fin.ext ((Pipeline.Window.rect_emb_val win0_3 t y a).trans ?_))
  match a with
  | ⟨0, _⟩ => exact (congrArg (fun k => k * 128 + (y 0).val) h0).trans (by show _ = (y 0).val; omega)
  | ⟨1, _⟩ => exact (congrArg (fun k => k * 128 + (y 1).val) h1).trans (by show _ = (y 1).val; omega)

theorem in0_gate (t : Fin cfg0.N) (y : S1x128.Idx) : in0 V t 4 y = (V main_v5 : S1x128.Idx → F .bf16) y := by
  show (V main_v5 : S1x128.Idx → F .bf16) ((win0_4.blk t).view.emb y) = _
  obtain ⟨h0, h1⟩ := index0_4 t
  refine congrArg _ (funext fun a => Fin.ext ((Pipeline.Window.rect_emb_val win0_4 t y a).trans ?_))
  match a with
  | ⟨0, _⟩ => exact (congrArg (fun k => k * 1 + (y 0).val) h0).trans (by show _ = (y 0).val; omega)
  | ⟨1, _⟩ => exact (congrArg (fun k => k * 128 + (y 1).val) h1).trans (by show _ = (y 1).val; omega)

theorem in0_pick (t : Fin cfg0.N) (y : S64x8192.Idx) : in0 V t 5 y = (V main_v17 : S64x8192.Idx → F .bf16) y := by
  show (V main_v17 : S64x8192.Idx → F .bf16) ((win0_5.blk t).view.emb y) = _
  obtain ⟨h0, h1⟩ := index0_5 t
  refine congrArg _ (funext fun a => Fin.ext ((Pipeline.Window.rect_emb_val win0_5 t y a).trans ?_))
  match a with
  | ⟨0, _⟩ => exact (congrArg (fun k => k * 64 + (y 0).val) h0).trans (by show _ = (y 0).val; omega)
  | ⟨1, _⟩ => exact (congrArg (fun k => k * 8192 + (y 1).val) h1).trans (by show _ = (y 1).val; omega)

theorem in0_block (t : Fin cfg0.N) (y : S64x8192.Idx) : in0 V t 6 y = (V main_v22 : S64x8192.Idx → F .bf16) y := by
  show (V main_v22 : S64x8192.Idx → F .bf16) ((win0_6.blk t).view.emb y) = _
  obtain ⟨h0, h1⟩ := index0_6 t
  refine congrArg _ (funext fun a => Fin.ext ((Pipeline.Window.rect_emb_val win0_6 t y a).trans ?_))
  match a with
  | ⟨0, _⟩ => exact (congrArg (fun k => k * 64 + (y 0).val) h0).trans (by show _ = (y 0).val; omega)
  | ⟨1, _⟩ => exact (congrArg (fun k => k * 8192 + (y 1).val) h1).trans (by show _ = (y 1).val; omega)

/-! ## The second kernel -/

theorem index1_0 : ∀ t : Fin grid1.N, win1_0.index t 0 = t.val ∧ win1_0.index t 1 = 0 := by decide +kernel
theorem index1_1 : ∀ t : Fin grid1.N, win1_1.index t 0 = 0 ∧ win1_1.index t 1 = 0 := by decide +kernel
theorem index1_2 : ∀ t : Fin grid1.N, win1_2.index t 0 = 0 ∧ win1_2.index t 1 = 0 := by decide +kernel
theorem index1_3 : ∀ t : Fin grid1.N, win1_3.index t 0 = 0 ∧ win1_3.index t 1 = 0 := by decide +kernel
theorem index1_4 : ∀ t : Fin grid1.N, win1_4.index t 0 = 0 ∧ win1_4.index t 1 = 0 := by decide +kernel

theorem in1_rows (t : Fin cfg1.N) (r : Fin 512) (k : Fin 256) (b : Fin 2048) (hb : b.val = t.val * 512 + r.val) :
    in1 V t 0 (ix2 r k) = (V main_v24 : S2048x256.Idx → F .f32) (ix2 b k) := by
  show (V main_v24 : S2048x256.Idx → F .f32) ((win1_0.blk t).view.emb (ix2 r k)) = _
  obtain ⟨h0, h1⟩ := index1_0 t
  refine congrArg _ (funext fun a => Fin.ext ((Pipeline.Window.rect_emb_val win1_0 t (ix2 r k) a).trans ?_))
  match a with
  | ⟨0, _⟩ => exact (congrArg (fun q => q * 512 + r.val) h0).trans hb.symm
  | ⟨1, _⟩ => exact (congrArg (fun q => q * 256 + k.val) h1).trans (by show _ = k.val; omega)

theorem in1_first (t : Fin cfg1.N) (y : S256x64.Idx) : in1 V t 1 y = (V main_v25 : S256x64.Idx → F .bf16) y := by
  show (V main_v25 : S256x64.Idx → F .bf16) ((win1_1.blk t).view.emb y) = _
  obtain ⟨h0, h1⟩ := index1_1 t
  refine congrArg _ (funext fun a => Fin.ext ((Pipeline.Window.rect_emb_val win1_1 t y a).trans ?_))
  match a with
  | ⟨0, _⟩ => exact (congrArg (fun k => k * 256 + (y 0).val) h0).trans (by show _ = (y 0).val; omega)
  | ⟨1, _⟩ => exact (congrArg (fun k => k * 64 + (y 1).val) h1).trans (by show _ = (y 1).val; omega)

theorem in1_bias (t : Fin cfg1.N) (y : S1x64.Idx) : in1 V t 2 y = (V main_v26 : S1x64.Idx → F .f32) y := by
  show (V main_v26 : S1x64.Idx → F .f32) ((win1_2.blk t).view.emb y) = _
  obtain ⟨h0, h1⟩ := index1_2 t
  refine congrArg _ (funext fun a => Fin.ext ((Pipeline.Window.rect_emb_val win1_2 t y a).trans ?_))
  match a with
  | ⟨0, _⟩ => exact (congrArg (fun k => k * 1 + (y 0).val) h0).trans (by show _ = (y 0).val; omega)
  | ⟨1, _⟩ => exact (congrArg (fun k => k * 64 + (y 1).val) h1).trans (by show _ = (y 1).val; omega)

theorem in1_second (t : Fin cfg1.N) (y : S64x1.Idx) : in1 V t 3 y = (V main_v27 : S64x1.Idx → F .bf16) y := by
  show (V main_v27 : S64x1.Idx → F .bf16) ((win1_3.blk t).view.emb y) = _
  obtain ⟨h0, h1⟩ := index1_3 t
  refine congrArg _ (funext fun a => Fin.ext ((Pipeline.Window.rect_emb_val win1_3 t y a).trans ?_))
  match a with
  | ⟨0, _⟩ => exact (congrArg (fun k => k * 64 + (y 0).val) h0).trans (by show _ = (y 0).val; omega)
  | ⟨1, _⟩ => exact (congrArg (fun k => k * 1 + (y 1).val) h1).trans (by show _ = (y 1).val; omega)

theorem in1_last (t : Fin cfg1.N) (y : S1x1.Idx) : in1 V t 4 y = (V main_v28 : S1x1.Idx → F .f32) y := by
  show (V main_v28 : S1x1.Idx → F .f32) ((win1_4.blk t).view.emb y) = _
  obtain ⟨h0, h1⟩ := index1_4 t
  refine congrArg _ (funext fun a => Fin.ext ((Pipeline.Window.rect_emb_val win1_4 t y a).trans ?_))
  match a with
  | ⟨0, _⟩ => exact (congrArg (fun k => k * 1 + (y 0).val) h0).trans (by show _ = (y 0).val; omega)
  | ⟨1, _⟩ => exact (congrArg (fun k => k * 1 + (y 1).val) h1).trans (by show _ = (y 1).val; omega)

end Cert.KernelIdeal.Own
-- ==== Proof.Words.lean ====
/-
  Facts on single words: a node's number, a mask's bit, and the numbers a mask's bit stands for.
-/
module

public import Idealize.ShloMosaic.Lib.Pointwise
public import Idealize.ShloMosaic.Lib.StableHlo.Predicate

@[expose] public section

noncomputable section

namespace Cert.Own

open Idealize.ShloMosaic

/-- A number of a node is not counted from the end. -/
theorem wrap_eq (w : BitVec 32) (h : w.toNat < 128) : Scalar.select (IntOp.cmpi .slt w 0#32) (IntOp.addi w 128#32) w = w := by
  have : IntOp.cmpi .slt w 0#32 ≠ 1#1 := fun e => by
    have := (StableHlo.Predicate.slt_iff_toNat (by omega) (by decide)).mp e
    exact absurd this (Nat.not_lt_zero _)
  unfold Scalar.select
  exact if_neg this

/-- It passes the two tests that it names a node. -/
theorem within_eq (w : BitVec 32) (h : w.toNat < 128) : IntOp.andi (IntOp.cmpi .sge w 0#32) (IntOp.cmpi .sle w 127#32) = 1#1 := by
  rw [(StableHlo.Predicate.sge_iff_toNat (by omega) (by decide)).mpr (Nat.zero_le _),
    (StableHlo.Predicate.sle_iff_toNat (by omega) (by decide)).mpr (show _ ≤ 127 by omega)]
  rfl

/-- Read as a signed number it is itself. -/
theorem clamp_eq (w : BitVec 32) (h : w.toNat < 128) : min w.toInt.toNat (128 - 1) = w.toNat := by
  rw [BitVec.toInt_eq_toNat_of_lt (by omega)]
  omega

/-- A bit is one of two. -/
theorem bit_cases (k : BitVec 1) : k = 0#1 ∨ k = 1#1 := by revert k; decide

/-- A bit as a number. -/
theorem bit_val {φ : FTy} (k : BitVec 1) : (FloatOps.uitofp φ k : Ideal φ) = if k = 1#1 then 1 else 0 := by
  rcases bit_cases k with rfl | rfl
  · rw [if_neg (by decide)]
    show ((((0#1 : BitVec 1).toNat : ℝ)) : EReal) = 0
    simp
  · rw [if_pos rfl]
    show ((((1#1 : BitVec 1).toNat : ℝ)) : EReal) = 1
    simp

/-- One half. -/
theorem half_eq : Ideal.ofBits .f32 0x3F000000#32 = ((1 / 2 : ℝ) : EReal) := by
  simp [Ideal.ofBits, Ideal.ieee, -EReal.coe_mul]
  ring

/-- The literal below every score is a number. -/
theorem low_ne : Ideal.ofBits .f32 0xF149F2CA#32 ≠ ⊥ ∧ Ideal.ofBits .f32 0xF149F2CA#32 ≠ ⊤ := by
  simp [Ideal.ofBits, Ideal.ieee, -EReal.coe_mul]

/-- The literal a greatest is sought from. -/
theorem bottom_eq : Ideal.ofBits .f32 0xFF800000#32 = ⊥ := by
  simp [Ideal.ofBits, Ideal.ieee, -EReal.coe_mul]

/-- The literal no finite number reaches. -/
theorem top_eq : Ideal.ofBits .f32 0x7F800000#32 = ⊤ := by
  simp [Ideal.ofBits, Ideal.ieee, -EReal.coe_mul]

end Cert.Own
-- ==== Proof.HostVals.lean ====
/-
  What the host's lines before the first kernel leave in the buffers it reads.
-/
module

public import proofs.«01_k».proof.Proof.Gen.KernelIdeal.Regions
public import proofs.«01_k».proof.Proof.Words

@[expose] public section

noncomputable section

namespace Cert.KernelIdeal.Own

open Cert.KernelIdeal Cert.KernelIdeal.Gen
open Idealize.ShloMosaic
open Idealize.ShloMosaic.TcCoe Idealize.ShloMosaic.Tactic

section
variable {F : FTy → Type} [FloatOps F]

/-- The number of each column. -/
def lanes : IVec S1x8192 32 := broadcastInDim S1x8192 ![1] bcast_S8192_S1x8192_1 (iotaInDim S8192 32 0)

/-- The number of each row. -/
def rows : IVec S64x1 32 := broadcastInDim S64x1 ![0] bcast_S64_S64x1_0 (iotaInDim S64 32 0)

/-- The mask that picks each row's second node. -/
def pickMask : FVec F S64x8192 .bf16 :=
  uitofp .bf16 (cmpi .eq (broadcastInDim S64x8192 ![0, 1] bcast_S1x8192_S64x8192_0_1 lanes)
    (broadcastInDim S64x8192 ![0, 1] bcast_S64x1_S64x8192_0_1 (addi (muli rows (broadcastInDim S64x1 ![] bcast_S_S64x1 (constantI S_ 32 128#32)))
      (broadcastInDim S64x1 ![] bcast_S_S64x1 (constantI S_ 32 1#32)))))

/-- A vector's words over one word, rounded down. -/
def floorDiv (a : IVec S1x8192 32) (b : IVec S_ 32) : IVec S1x8192 32 :=
  have w : IVec S1x8192 32 := broadcastInDim S1x8192 ![] bcast_S_S1x8192 b
  select (andi (cmpi .ne (signi a) (broadcastInDim S1x8192 ![] bcast_S_S1x8192 (signi b)))
      (cmpi .ne (Host.remsi a w) (broadcastInDim S1x8192 ![] bcast_S_S1x8192 (constantI S_ 32 0#32))))
    (subi (Host.divsi a w) (broadcastInDim S1x8192 ![] bcast_S_S1x8192 (constantI S_ 32 1#32))) (Host.divsi a w)

/-- The mask that keeps each row's own columns. -/
def blockMask : FVec F S64x8192 .bf16 :=
  uitofp .bf16 (cmpi .eq (broadcastInDim S64x8192 ![0, 1] bcast_S1x8192_S64x8192_0_1 (floorDiv lanes (constantI S_ 32 128#32)))
    (broadcastInDim S64x8192 ![0, 1] bcast_S64x1_S64x8192_0_1 rows))

/-- One for a node that counts and zero for one that does not. -/
def validOf (k : IVec S2048x128 1) : FVec F S2048x128 .f32 :=
  subf (broadcastInDim S2048x128 ![] bcast_S_S2048x128 (constant S_ .f32 0x3F800000#32)) (uitofp .f32 k)

variable (V : Valuation τ sig (Elt F))

theorem head_v2 : StableHlo.after hostOps0 V main_v2 = validOf (V main_arg2) := by
  simp only [hostOps0]; after_results; rfl
theorem head_v3 : StableHlo.after hostOps0 V main_v3 = truncf .bf16 (V main_arg3) := by
  simp only [hostOps0]; after_results
theorem head_v5 : StableHlo.after hostOps0 V main_v5 = truncf .bf16 (shapeCast S1x128 (V main_arg4) shapeCasts_S128_S1x128) := by
  simp only [hostOps0]; after_results; rfl
theorem head_v7 : StableHlo.after hostOps0 V main_v7 = lanes := by
  simp only [hostOps0]; after_results; rfl
theorem head_v9 : StableHlo.after hostOps0 V main_v9 = rows := by
  simp only [hostOps0]; after_results; rfl
theorem head_c1 : StableHlo.after hostOps0 V main_c_1 = constantI S_ 32 128#32 := by
  simp only [hostOps0]; after_results
theorem head_v17 : StableHlo.after hostOps0 V main_v17 = pickMask := by
  simp only [hostOps0]; after_results; rfl
theorem head_v18 : StableHlo.after hostOps0_1 V main_v18 = floorDiv (V main_v7) (V main_c_1) := by
  simp only [hostOps0_1]; after_results; rfl
theorem head_v22 : StableHlo.after hostOps0_2 V main_v22
    = uitofp .bf16 (cmpi .eq (broadcastInDim S64x8192 ![0, 1] bcast_S1x8192_S64x8192_0_1 (V main_v18 : IVec S1x8192 32))
        (broadcastInDim S64x8192 ![0, 1] bcast_S64x1_S64x8192_0_1 (V main_v9 : IVec S64x1 32))) := by
  simp only [hostOps0_2]; after_results

variable (m : (ℓ : Loc nD τ sig) → Buf (Elt F) ℓ) (c : Dev nD)

/-- A buffer only the first lines write. -/
theorem V3_first (r : Ref sig .tc) (h1 : r ∉ hostOps0_1_W) (h2 : r ∉ hostOps0_2_W) : V3 m c r = V1 m c r :=
  (V3_of m c r h2).trans (V2_of m c r h1)

theorem V3_arg (r : Ref sig .tc) (h0 : r ∉ hostOps0_W) (h1 : r ∉ hostOps0_1_W) (h2 : r ∉ hostOps0_2_W) : V3 m c r = V0 m c r :=
  (V3_first m c r h1 h2).trans (V1_of m c r h0)

theorem V3_v2 : V3 m c main_v2 = validOf (m ((c.tc : Thread nD τ).loc main_arg2)) :=
  (V3_first m c main_v2 (by decide) (by decide)).trans (head_v2 (V0 m c))
theorem V3_v3 : V3 m c main_v3 = truncf .bf16 (m ((c.tc : Thread nD τ).loc main_arg3)) :=
  (V3_first m c main_v3 (by decide) (by decide)).trans (head_v3 (V0 m c))
theorem V3_v5 : V3 m c main_v5 = truncf .bf16 (shapeCast S1x128 (m ((c.tc : Thread nD τ).loc main_arg4)) shapeCasts_S128_S1x128) :=
  (V3_first m c main_v5 (by decide) (by decide)).trans (head_v5 (V0 m c))
theorem V3_v17 : V3 m c main_v17 = pickMask :=
  (V3_first m c main_v17 (by decide) (by decide)).trans (head_v17 (V0 m c))
theorem V3_v22 : V3 m c main_v22 = blockMask := by
  refine (head_v22 (V2 m c)).trans ?_
  rw [show V2 m c main_v9 = rows from (V2_of m c main_v9 (by decide)).trans (head_v9 (V0 m c)),
    show V2 m c main_v18 = floorDiv lanes (constantI S_ 32 128#32) from (head_v18 (V1 m c)).trans (by
      rw [show V1 m c main_v7 = lanes from head_v7 (V0 m c), show V1 m c main_c_1 = constantI S_ 32 128#32 from head_c1 (V0 m c)])]
  rfl

end

/-! ## Entry by entry -/

/-- A test of equality as a number. -/
theorem test_eq {φ : FTy} (a b : BitVec 32) : (FloatOps.uitofp φ (IntOp.cmpi .eq a b) : Ideal φ) = if a = b then 1 else 0 := by
  rw [Cert.Own.bit_val]
  exact if_congr StableHlo.Predicate.cmpi_eq_iff rfl rfl

theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · intro h; rw [h]

theorem second_word : ∀ p : Fin 64, IntOp.addi (IntOp.muli (BitVec.ofNat 32 p.val) 128#32) 1#32 = BitVec.ofNat 32 (128 * p.val + 1) := by
  decide +kernel

/-- The printed division by 128 of one word. -/
def over128 (w : BitVec 32) : BitVec 32 :=
  have sign : BitVec 32 → BitVec 32 := fun w => if w = 0 then 0 else if w.msb = true then -1 else 1
  Scalar.select (IntOp.andi (IntOp.cmpi .ne (sign w) (sign 128#32)) (IntOp.cmpi .ne (IntOp.remsi .host w 128#32) 0#32))
    (IntOp.subi (IntOp.divsi .host w 128#32) 1#32) (IntOp.divsi .host w 128#32)

theorem over128_eq : ∀ j : Fin 8192, over128 (BitVec.ofNat 32 j.val) = BitVec.ofNat 32 (j.val / 128) := by decide +kernel

theorem floorDiv_lanes (j : Fin 8192) : floorDiv lanes (constantI S_ 32 128#32) (ix2 0 j) = BitVec.ofNat 32 (j.val / 128) := by
  refine Eq.trans ?_ (over128_eq j)
  pointwise [lanes, floorDiv, over128]

theorem pickMask_apply (p : Fin 64) (j : Fin 8192) :
    (pickMask : FVec Ideal S64x8192 .bf16) (ix2 p j) = if j = ⟨128 * p.val + 1, by omega⟩ then 1 else 0 := by
  pointwise [pickMask, lanes, rows]
  rw [second_word, test_eq]
  exact if_congr ((ofNat_eq_iff (by omega) (by omega)).trans (Fin.ext_iff (a := j) (b := ⟨128 * p.val + 1, by omega⟩)).symm) rfl rfl

theorem blockMask_apply (p : Fin 64) (j : Fin 8192) :
    (blockMask : FVec Ideal S64x8192 .bf16) (ix2 p j) = if j.val / 128 = p.val then 1 else 0 := by
  pointwise [blockMask, rows]
  rw [floorDiv_lanes, test_eq]
  exact if_congr (ofNat_eq_iff (by omega) (by omega)) rfl rfl

theorem validOf_apply (k : IVec S2048x128 1) (b : Fin 2048) (n : Fin 128) :
    (validOf k : FVec Ideal S2048x128 .f32) (ix2 b n) = if k (ix2 b n) = 1#1 then 0 else 1 := by
  pointwise [validOf]
  rw [Cert.Own.bit_val]
  split
  · rw [← EReal.coe_one, ← EReal.coe_sub, sub_self, EReal.coe_zero]
  · exact sub_zero _

end Cert.KernelIdeal.Own
-- ==== Proof.Emb.lean ====
/-
  What one tree's block computes, at the extended reals: the embedding of node `n` in coordinate `d` is the row `d` of
  the matrix times the node's features plus its child's, cut off below at zero.
-/
module

public import proofs.«01_k».proof.Proof.Point0
public import proofs.«01_k».proof.Proof.Words

@[expose] public section

noncomputable section

namespace Cert.KernelIdeal.Own

open Cert.KernelIdeal Cert.KernelIdeal.Gen
open Idealize.ShloMosaic

theorem treeEmb_apply (W : Vec Ideal S128x128 .bf16) (T : Vec Ideal S1x128x128 .f32) (I : Vec Ideal S1x128 .i32) (d n : Fin 128)
    (h : (I (ix2 0 n)).toNat < 128) :
    treeEmb W T I (ix3 0 d n) = max (∑ f : Fin 128, W (ix2 d f) * (T (ix3 0 f n) + T (ix3 0 f ⟨(I (ix2 0 n)).toNat, h⟩))) 0 := by
  unfold treeEmb
  pointwise [k0_pay50, k0_pay49]
  simp only [Cert.Own.wrap_eq _ h, Nat.mod_eq_of_lt h]

/-- The buffer of a block holds the embeddings of its 64 trees side by side. -/
theorem embBuf_apply (W : Vec Ideal S128x128 .bf16) (X : Vec Ideal S64x128x128 .f32) (I : Vec Ideal S64x128 .i32) (d n : Fin 128) (p : Fin 64)
    (h : (I (ix2 p n)).toNat < 128) :
    embBuf W X I (ix2 d ⟨128 * p.val + n.val, by omega⟩)
      = max (∑ f : Fin 128, W (ix2 d f) * (X (ix3 p f n) + X (ix3 p f ⟨(I (ix2 p n)).toNat, h⟩))) 0 := by
  have hp : (⟨(128 * p.val + n.val) / 128, by omega⟩ : Fin 64) = p := Fin.ext (by dsimp only; omega)
  have hn : (⟨(128 * p.val + n.val) % 128, Nat.mod_lt _ (by omega)⟩ : Fin 128) = n := Fin.ext (by dsimp only; omega)
  have e : embBuf W X I (ix2 d ⟨128 * p.val + n.val, by omega⟩)
      = treeEmb W (View.ld X (Rect.unit ![p.val, 0, 0] S1x128x128.size (treeInb p))) (View.ld I (Rect.unit ![p.val, 0] S1x128.size (rowInb p))) (ix3 0 d n) := by
    unfold embBuf
    exact congrArg₂ (fun (p : Fin 64) (n : Fin 128) => treeEmb W (View.ld X (Rect.unit ![p.val, 0, 0] S1x128x128.size (treeInb p)))
      (View.ld I (Rect.unit ![p.val, 0] S1x128.size (rowInb p))) (ix3 0 d n)) hp hn
  have hI : ∀ n, View.ld I (Rect.unit ![p.val, 0] S1x128.size (rowInb p)) (ix2 0 n) = I (ix2 p n) := fun n => by pointwise
  have hX : ∀ f n, View.ld X (Rect.unit ![p.val, 0, 0] S1x128x128.size (treeInb p)) (ix3 0 f n) = X (ix3 p f n) := fun f n => by pointwise
  rw [e, treeEmb_apply _ _ _ _ _ (by rw [hI]; exact h)]
  simp only [hX, hI]

set_option maxRecDepth 16384 in
theorem mlpBlk_apply (X : Vec Ideal S512x256 .f32) (A : Vec Ideal S256x64 .bf16) (a : Vec Ideal S1x64 .f32) (B : Vec Ideal S64x1 .bf16)
    (b : Vec Ideal S1x1 .f32) (r : Fin 512) :
    k1_pay1 X A a B b (ix2 r 0) = ∑ h : Fin 64, max (∑ k : Fin 256, X (ix2 r k) * A (ix2 k h) + a (ix2 0 h)) 0 * B (ix2 h 0) + b (ix2 0 0) := by
  pointwise [k1_pay1]

end Cert.KernelIdeal.Own
-- ==== Proof.Softmax.lean ====
/-
  The equation between the two ways of pooling, over the extended reals and with no program in sight.

  One way multiplies the entries by their shares `x n / ∑ x` and adds up, over all the columns of a block with a mask
  that keeps one tree's; the other adds up first and divides the sum.
-/
module

public import Idealize.ShloMosaic.PureOps.Ideal

@[expose] public section

noncomputable section

namespace Cert.Own

open Idealize.ShloMosaic

/-! ## Sums over a block's columns -/

/-- A sum that the mask cuts down to one column. -/
theorem oneHot_sum {N : ℕ} (R E : Fin N → EReal) (j₀ : Fin N) (hR : ∀ j, R j = if j = j₀ then 1 else 0) : ∑ j, R j * E j = E j₀ := by
  rw [Finset.sum_eq_single j₀ (fun j _ h => by rw [hR, if_neg h, zero_mul]) (fun h => absurd (Finset.mem_univ _) h), hR, if_pos rfl, one_mul]

/-- A sum that the mask cuts down to one tree's columns. -/
theorem block_sum (w : Fin 128 → EReal) (B E : Fin 8192 → EReal) (p : Fin 64) (hB : ∀ j, B j = if j.val / 128 = p.val then 1 else 0) :
    ∑ j : Fin 8192, w ⟨j.val % 128, Nat.mod_lt _ (by omega)⟩ * B j * E j = ∑ n : Fin 128, w n * E ⟨128 * p.val + n.val, by omega⟩ := by
  refine (Finset.sum_of_injOn (fun n : Fin 128 => (⟨128 * p.val + n.val, by omega⟩ : Fin 8192)) ?_ (fun _ _ => Finset.mem_coe.mpr (Finset.mem_univ _)) ?_ ?_).symm
  · intro a _ b _ h
    exact Fin.ext (by have := congrArg Fin.val h; dsimp only at this; omega)
  · intro j _ hj
    rw [hB, if_neg, mul_zero, zero_mul]
    intro h
    exact hj ⟨⟨j.val % 128, Nat.mod_lt _ (by omega)⟩, Finset.mem_coe.mpr (Finset.mem_univ _), Fin.ext (by dsimp only; omega)⟩
  · intro n _
    dsimp only
    rw [hB, if_pos (by dsimp only; omega), mul_one]
    exact congrArg (fun k => w k * _) (Fin.ext (by dsimp only; omega))

/-! ## Real values -/

/-- A value that is a real number. -/
def IsReal (x : EReal) : Prop := ∃ r : ℝ, x = (r : EReal)

theorem IsReal.add {x y : EReal} : IsReal x → IsReal y → IsReal (x + y) := fun ⟨a, ha⟩ ⟨b, hb⟩ => ⟨a + b, by rw [ha, hb, EReal.coe_add]⟩

theorem IsReal.mul {x y : EReal} : IsReal x → IsReal y → IsReal (x * y) := fun ⟨a, ha⟩ ⟨b, hb⟩ => ⟨a * b, by rw [ha, hb, EReal.coe_mul]⟩

theorem IsReal.sub {x y : EReal} : IsReal x → IsReal y → IsReal (x - y) := fun ⟨a, ha⟩ ⟨b, hb⟩ => ⟨a - b, by rw [ha, hb, EReal.coe_sub]⟩

theorem IsReal.zero : IsReal 0 := ⟨0, EReal.coe_zero.symm⟩

theorem IsReal.max' {x y : EReal} (hx : IsReal x) (hy : IsReal y) : IsReal (Max.max x y) := by
  rcases max_choice x y with h | h <;> rw [h] <;> assumption

theorem IsReal.sum {N : ℕ} {f : Fin N → EReal} (h : ∀ n, IsReal (f n)) : IsReal (∑ n, f n) :=
  Finset.sum_induction f IsReal (fun _ _ => IsReal.add) IsReal.zero fun n _ => h n

theorem isReal_iff {x : EReal} : IsReal x ↔ x ≠ ⊥ ∧ x ≠ ⊤ := by
  constructor
  · rintro ⟨r, rfl⟩; exact ⟨EReal.coe_ne_bot r, EReal.coe_ne_top r⟩
  · rintro ⟨h, h'⟩; exact ⟨x.toReal, (EReal.coe_toReal h' h).symm⟩

/-- The greatest of 128 real values is one. -/
theorem IsReal.foldMax {f : Fin 128 → EReal} (h : ∀ n, IsReal (f n)) : IsReal (Finset.fold Max.max ⊥ f Finset.univ) := by
  refine isReal_iff.mpr ⟨?_, ?_⟩
  · have : f 0 ≤ Finset.fold Max.max ⊥ f Finset.univ := (Finset.le_fold_max (f 0)).mpr (.inr ⟨0, Finset.mem_univ _, le_rfl⟩)
    intro e
    rw [e] at this
    exact (isReal_iff.mp (h 0)).1 (le_bot_iff.mp this)
  · exact ((Finset.fold_max_lt _).mpr ⟨bot_lt_top, fun n _ => lt_top_iff_ne_top.mpr (isReal_iff.mp (h n)).2⟩).ne

/-- The sum of real values, as a real sum. -/
theorem sum_coe {N : ℕ} (f : Fin N → ℝ) : ∑ n, ((f n : ℝ) : EReal) = ((∑ n, f n : ℝ) : EReal) :=
  (map_sum (⟨⟨Real.toEReal, EReal.coe_zero⟩, EReal.coe_add⟩ : ℝ →+ EReal) f Finset.univ).symm

/-! ## The equation -/

/-- Sharing out before the sum or dividing after it: the same, over real values with a positive sum. -/
theorem share_sum (x e : Fin 128 → EReal) (hx : ∀ n, ∃ r : ℝ, 0 ≤ r ∧ x n = (r : EReal)) (hpos : ∃ n, 0 < x n) (he : ∀ n, IsReal (e n)) :
    ∑ n, Ideal.div (x n) (∑ k, x k) * e n = Ideal.div (∑ n, e n * x n) (∑ k, x k) := by
  choose r hr0 hr using hx
  choose s hs using he
  obtain ⟨n₀, hn₀⟩ := hpos
  have hden : ∑ k, x k = ((∑ k, r k : ℝ) : EReal) := by rw [← sum_coe]; exact Finset.sum_congr rfl fun k _ => hr k
  have hr₀ : 0 < r n₀ := by rw [hr] at hn₀; exact EReal.coe_pos.mp hn₀
  have hD : 0 < ∑ k, r k := Finset.sum_pos' (fun k _ => hr0 k) ⟨n₀, Finset.mem_univ _, hr₀⟩
  have hne : ((∑ k, r k : ℝ) : EReal) ≠ 0 := fun h => hD.ne' (EReal.coe_eq_zero.mp h)
  simp only [hden, Ideal.div, if_neg hne]
  rw [show ∑ n, e n * x n = ((∑ n, s n * r n : ℝ) : EReal) from by
    rw [← sum_coe]; exact Finset.sum_congr rfl fun n _ => by rw [hs, hr, EReal.coe_mul]]
  rw [← EReal.coe_inv, ← EReal.coe_mul, Finset.sum_mul, ← sum_coe]
  refine Finset.sum_congr rfl fun n _ => ?_
  rw [hr, hs, ← EReal.coe_mul, ← EReal.coe_mul]
  exact congrArg _ (by ring)

end Cert.Own
-- ==== Proof.Pooled.lean ====
/-
  What one block of the first kernel writes: the sixty-four scores of a block stacked, their softmax, and the two sums
  over the block's columns.
-/
module

public import proofs.«01_k».proof.Proof.Point0
public import proofs.«01_k».proof.Proof.Words
public import proofs.«01_k».proof.Proof.Softmax
public import Idealize.ShloMosaic.Lib.Pipeline.Value

@[expose] public section

noncomputable section

namespace Cert.KernelIdeal.Own

open Cert.KernelIdeal Cert.KernelIdeal.Gen
open Idealize.ShloMosaic

variable {F : FTy → Type} [FloatOps F]

theorem slabInb (p : Fin 64) : ∀ a, (![0, 128 * p.val] : Fin 2 → ℕ) a + S1x128.size a ≤ S1x8192.size a := by
  intro a; fin_cases a
  · show 0 + 1 ≤ 1; omega
  · show 128 * p.val + 128 ≤ 8192; omega

theorem slabSlices (p : Fin 64) : S1x8192.Slices ![0, 128 * p.val] S1x128 := ⟨rfl, slabInb p⟩

/-- The scores of tree `p` of the block. -/
def slab (S : FVec F S1x8192 .f32) (p : Fin 64) : FVec F S1x128 .f32 := extractStridedSlice S1x128 ![0, 128 * p.val] S (slabSlices p)

theorem stacked_cat (S : FVec F S1x8192 .f32) :
    Shape.Concatenates ((List.ofFn fun p : Fin 64 => (⟨S1x128, slab S p⟩ : (s : Shape) × (s.Idx → F .f32))).map (·.1)) S64x128 0 := by
  rw [List.map_ofFn, show (List.ofFn ((fun x => x.1) ∘ fun p : Fin 64 => (⟨S1x128, slab S p⟩ : (s : Shape) × (s.Idx → F .f32)))) = List.replicate 64 S1x128 from
    List.ofFn_const 64 S1x128]
  decide

/-- One row per tree. -/
def stacked (S : FVec F S1x8192 .f32) : FVec F S64x128 .f32 :=
  concatenate S64x128 0 (List.ofFn fun p : Fin 64 => ⟨S1x128, slab S p⟩) (stacked_cat S)

theorem repeated_cat (w : FVec F S64x128 .bf16) :
    Shape.Concatenates ((List.ofFn fun _ : Fin 64 => (⟨S64x128, w⟩ : (s : Shape) × (s.Idx → F .bf16))).map (·.1)) S64x8192 1 := by
  rw [List.map_ofFn, show (List.ofFn ((fun x => x.1) ∘ fun _ : Fin 64 => (⟨S64x128, w⟩ : (s : Shape) × (s.Idx → F .bf16)))) = List.replicate 64 S64x128 from
    List.ofFn_const 64 S64x128]
  decide

/-- Sixty-four copies side by side. -/
def repeated (w : FVec F S64x128 .bf16) : FVec F S64x8192 .bf16 :=
  concatenate S64x8192 1 (List.ofFn fun _ : Fin 64 => ⟨S64x128, w⟩) (repeated_cat w)

/-- The scores, those of masked nodes replaced. -/
def maskedScore (s v : FVec F S64x128 .f32) : FVec F S64x128 .f32 :=
  select (cmpf .ogt (shapeCast S64x128 v shapeCasts_S64x128_S64x128) (broadcast S64x128 (Scalar.ofBits .f32 0x3F000000#32))) s
    (broadcast S64x128 (Scalar.ofBits .f32 0xF149F2CA#32))

/-- The exponentials. -/
def expos (s v : FVec F S64x128 .f32) : FVec F S64x128 .f32 :=
  mulf (exp (subf s (broadcastTo S64x128 (shapeCast S64x1 (multiReduction .maximumf [1] S64 s 0xFF800000#32 reduces_S64x128_S64 (.inl rfl) rfl)
    shapeCasts_S64_S64x1) broadcasts_S64x1_S64x128))) (shapeCast S64x128 v shapeCasts_S64x128_S64x128)

/-- Their shares of the row's sum. -/
def shares (e : FVec F S64x128 .f32) : FVec F S64x128 .bf16 :=
  truncf .bf16 (divf e (broadcastTo S64x128 (shapeCast S64x1 (multiReduction .add [1] S64 e 0x00000000#32 reduces_S64x128_S64 (.inl rfl) rfl)
    shapeCasts_S64_S64x1) broadcasts_S64x1_S64x128)) bitsLt_bf16_f32

/-- The two sums over the columns. -/
def sums (E : FVec F S128x8192 .bf16) (w r : FVec F S64x8192 .bf16) : FVec F S64x256 .f32 :=
  have R : FVec F S128x128 .f32 := matmul dot_S128x8192_S128x8192_S128x128_1_1_0_0_n_n none
    (concatenate S128x8192 0 [⟨S64x8192, r⟩, ⟨S64x8192, w⟩] concatenates_S64x8192_S64x8192_S128x8192_d0) E (constant S128x128 .f32 0x00000000#32)
  concatenate S64x256 1 [⟨S64x128, extractStridedSlice S64x128 ![0, 0] R slices_S128x128_o0_0_S64x128⟩,
    ⟨S64x128, extractStridedSlice S64x128 ![64, 0] R slices_S128x128_o64_0_S64x128⟩] concatenates_S64x128_S64x128_S64x256_d1

set_option maxRecDepth 16384 in
theorem pooled_eq (v3 : Vec F S1x128x8192 .bf16) (v5 : Vec F S1x128 .bf16) (v : Vec F S64x128 .f32) (bm rs : Vec F S64x8192 .bf16) :
    pooled v3 v5 v bm rs = sums (k0_pay2 v3)
      (mulf (repeated (shares (expos (maskedScore (stacked (k0_pay3 v3 v5)) v) v))) (shapeCast S64x8192 bm shapeCasts_S64x8192_S64x8192))
      (shapeCast S64x8192 rs shapeCasts_S64x8192_S64x8192) := by
  unfold pooled k0_pay48
  rfl

/-! ## Entry by entry -/

theorem stacked_apply (S : FVec F S1x8192 .f32) (p : Fin 64) (n : Fin 128) : stacked S (ix2 p n) = S (ix2 0 ⟨128 * p.val + n.val, by omega⟩) := by
  unfold stacked
  refine (concatenate_ofFn_apply (t := S64x128) (s₁ := S1x128) 0 (fun p => slab S p) (stacked_cat S) rfl 1 rfl (ix2 p n) p ?_ (ix2 0 n) ?_ ?_).trans ?_
  · show p.val / 1 = p.val; omega
  · show 0 = p.val % 1; omega
  · intro b hb; fin_cases b
    · exact absurd rfl hb
    · rfl
  · unfold slab
    pointwise

theorem repeated_apply (w : FVec F S64x128 .bf16) (p : Fin 64) (j : Fin 8192) :
    repeated w (ix2 p j) = w (ix2 p ⟨j.val % 128, Nat.mod_lt _ (by omega)⟩) := by
  unfold repeated
  refine concatenate_ofFn_apply (t := S64x8192) (s₁ := S64x128) 1 (fun _ => w) (repeated_cat w) rfl 128 rfl (ix2 p j) ⟨j.val / 128, by omega⟩ rfl
    (ix2 p ⟨j.val % 128, Nat.mod_lt _ (by omega)⟩) rfl ?_
  intro b hb; fin_cases b
  · rfl
  · exact absurd rfl hb

theorem scores_apply (E : Vec Ideal S1x128x8192 .bf16) (g : Vec Ideal S1x128 .bf16) (j : Fin 8192) :
    k0_pay3 E g (ix2 0 j) = ∑ d : Fin 128, g (ix2 0 d) * E (ix3 0 d j) := by
  pointwise [k0_pay3, k0_pay2]

/-- One row's scores, those of masked nodes replaced. -/
def rowScore (q v : Fin 128 → EReal) (n : Fin 128) : EReal :=
  if Ideal.ofBits .f32 0x3F000000#32 < v n then q n else Ideal.ofBits .f32 0xF149F2CA#32

/-- One row's exponentials. -/
def rowExpo (s v : Fin 128 → EReal) (n : Fin 128) : EReal := Ideal.exp (s n - Finset.fold max ⊥ s Finset.univ) * v n

theorem maskedScore_apply (s v : FVec Ideal S64x128 .f32) (p : Fin 64) (n : Fin 128) :
    maskedScore s v (ix2 p n) = rowScore (fun n => s (ix2 p n)) (fun n => v (ix2 p n)) n := by
  pointwise [maskedScore, rowScore]

theorem expos_apply (s v : FVec Ideal S64x128 .f32) (p : Fin 64) (n : Fin 128) :
    expos s v (ix2 p n) = rowExpo (fun n => s (ix2 p n)) (fun n => v (ix2 p n)) n := by
  pointwise [expos, rowExpo]
  rw [Cert.Own.bottom_eq]

theorem shares_apply (s : FVec Ideal S64x128 .f32) (p : Fin 64) (n : Fin 128) :
    shares s (ix2 p n) = Ideal.div (s (ix2 p n)) (∑ k, s (ix2 p k)) := by
  pointwise [shares]

theorem sums_apply (E : FVec Ideal S128x8192 .bf16) (w r : FVec Ideal S64x8192 .bf16) (p : Fin 64) (n : Fin 256) :
    sums E w r (ix2 p n) = if h : n.val < 128 then ∑ j, r (ix2 p j) * E (ix2 ⟨n.val, h⟩ j)
      else ∑ j, w (ix2 p j) * E (ix2 ⟨n.val - 128, by omega⟩ j) := by
  pointwise [sums]

/-- What a block writes at a row and a column: on the left the embedding of the row's second node, on the right the
    embeddings added up by their shares. -/
theorem pooled_apply (E : Vec Ideal S1x128x8192 .bf16) (g : Vec Ideal S1x128 .bf16) (v : Vec Ideal S64x128 .f32) (bm rs : Vec Ideal S64x8192 .bf16)
    (p : Fin 64) (hbm : ∀ j : Fin 8192, bm (ix2 p j) = if j.val / 128 = p.val then 1 else 0)
    (hrs : ∀ j : Fin 8192, rs (ix2 p j) = if j = ⟨128 * p.val + 1, by omega⟩ then 1 else 0) (c : Fin 256) (x : Fin 128 → EReal)
    (hx : x = rowExpo (rowScore (fun n => ∑ d : Fin 128, g (ix2 0 d) * E (ix3 0 d ⟨128 * p.val + n.val, by omega⟩)) (fun n => v (ix2 p n)))
      (fun n => v (ix2 p n))) :
    pooled E g v bm rs (ix2 p c) = if h : c.val < 128 then E (ix3 0 ⟨c.val, h⟩ ⟨128 * p.val + 1, by omega⟩)
      else ∑ n, Ideal.div (x n) (∑ k, x k) * E (ix3 0 ⟨c.val - 128, by omega⟩ ⟨128 * p.val + n.val, by omega⟩) := by
  have hE : ∀ d j, k0_pay2 E (ix2 d j) = E (ix3 0 d j) := fun d j => by pointwise [k0_pay2]
  have hx' : ∀ n, expos (maskedScore (stacked (k0_pay3 E g)) v) v (ix2 p n) = x n := fun n => by
    rw [expos_apply, hx]
    simp only [maskedScore_apply, stacked_apply, scores_apply]
  rw [pooled_eq, sums_apply]
  split
  · rename_i h
    refine Eq.trans (Finset.sum_congr rfl fun j _ => ?_) ((Cert.Own.oneHot_sum (fun j => rs (ix2 p j)) (fun j => k0_pay2 E (ix2 ⟨c.val, h⟩ j))
      ⟨128 * p.val + 1, by omega⟩ hrs).trans (hE _ _))
    pointwise
  · refine (Finset.sum_congr rfl fun j _ => ?_).trans ((Cert.Own.block_sum (fun n => Ideal.div (x n) (∑ k, x k)) (fun j => bm (ix2 p j))
      (fun j => k0_pay2 E (ix2 ⟨c.val - 128, by omega⟩ j)) p hbm).trans (Finset.sum_congr rfl fun n _ => by rw [hE]))
    pointwise
    rw [repeated_apply, shares_apply, hx']
    simp only [hx']

end Cert.KernelIdeal.Own
-- ==== Proof.Row.lean ====
/-
  One row's softmax: the kernel's masked exponentials are the reference's, and the sums by shares agree.
-/
module

public import proofs.«01_k».proof.Proof.Pooled

@[expose] public section

noncomputable section

namespace Cert.KernelIdeal.Own

open Cert.KernelIdeal Cert.KernelIdeal.Gen
open Idealize.ShloMosaic
open Cert.Own (IsReal)

/-- Whether a node counts, as a number. -/
def counts (k : Fin 128 → BitVec 1) (n : Fin 128) : EReal := if k n = 1#1 then 0 else 1

/-- One row's scores as the reference has them. -/
def refScore (q : Fin 128 → EReal) (k : Fin 128 → BitVec 1) (n : Fin 128) : EReal :=
  Scalar.select (~~~k n) (q n) (Ideal.ofBits .f32 0xF149F2CA#32)

/-- One row's exponentials as the reference has them. -/
def refExpo (s : Fin 128 → EReal) (k : Fin 128 → BitVec 1) (n : Fin 128) : EReal :=
  Scalar.select (~~~k n) (Ideal.exp (s n - Finset.fold max ⊥ s Finset.univ)) 0

theorem score_eq (q : Fin 128 → EReal) (k : Fin 128 → BitVec 1) : rowScore q (counts k) = refScore q k := by
  funext n
  unfold rowScore refScore counts
  rw [Cert.Own.half_eq]
  have h1 : ((1 / 2 : ℝ) : EReal) < 1 := by
    rw [show (1 : EReal) = ((1 : ℝ) : EReal) from rfl, EReal.coe_lt_coe_iff]; norm_num
  have h0 : ¬((1 / 2 : ℝ) : EReal) < 0 := by
    rw [show (0 : EReal) = ((0 : ℝ) : EReal) from rfl, EReal.coe_lt_coe_iff]; norm_num
  rcases Cert.Own.bit_cases (k n) with h | h
  · rw [h, if_neg (show ¬(0#1 : BitVec 1) = 1#1 by decide), if_pos h1]
    rfl
  · rw [h, if_pos (show (1#1 : BitVec 1) = 1#1 from rfl), if_neg h0]
    rfl

theorem expo_eq (s : Fin 128 → EReal) (k : Fin 128 → BitVec 1) : rowExpo s (counts k) = refExpo s k := by
  funext n
  unfold rowExpo refExpo counts
  rcases Cert.Own.bit_cases (k n) with h | h
  · rw [h, if_neg (show ¬(0#1 : BitVec 1) = 1#1 by decide), mul_one]
    rfl
  · rw [h, if_pos rfl, mul_zero]
    rfl

/-- The kernel's exponentials of a row are the reference's. -/
theorem row_eq (q : Fin 128 → EReal) (k : Fin 128 → BitVec 1) : rowExpo (rowScore q (counts k)) (counts k) = refExpo (refScore q k) k := by
  rw [score_eq, expo_eq]

theorem refScore_real (q : Fin 128 → EReal) (k : Fin 128 → BitVec 1) (hq : ∀ n, IsReal (q n)) (n : Fin 128) : IsReal (refScore q k n) := by
  unfold refScore
  rcases Cert.Own.bit_cases (k n) with h | h
  · rw [h]
    exact hq n
  · rw [h]
    exact Cert.Own.isReal_iff.2 Cert.Own.low_ne

/-- The exponential of a real score less the row's greatest. -/
theorem exp_real (s : Fin 128 → EReal) (hs : ∀ n, IsReal (s n)) (n : Fin 128) :
    ∃ r : ℝ, 0 < r ∧ Ideal.exp (s n - Finset.fold max ⊥ s Finset.univ) = r := by
  obtain ⟨r, hr⟩ := (hs n).sub (IsReal.foldMax hs)
  refine ⟨Real.exp r, Real.exp_pos r, ?_⟩
  rw [hr, Ideal.exp_coe]

theorem refExpo_real (s : Fin 128 → EReal) (k : Fin 128 → BitVec 1) (hs : ∀ n, IsReal (s n)) (n : Fin 128) :
    ∃ r : ℝ, 0 ≤ r ∧ refExpo s k n = r := by
  unfold refExpo
  rcases Cert.Own.bit_cases (k n) with h | h
  · rw [h]
    obtain ⟨r, h0, hr⟩ := exp_real s hs n
    exact ⟨r, h0.le, hr⟩
  · rw [h]
    exact ⟨0, le_rfl, rfl⟩

theorem refExpo_pos (s : Fin 128 → EReal) (k : Fin 128 → BitVec 1) (hs : ∀ n, IsReal (s n)) (n : Fin 128) (hk : k n = 0#1) : 0 < refExpo s k n := by
  unfold refExpo
  rw [hk]
  obtain ⟨r, h0, hr⟩ := exp_real s hs n
  exact lt_of_lt_of_eq (EReal.coe_pos.2 h0) hr.symm

/-- A row's sum by shares is its weighted sum over the weights' sum. -/
theorem row_pool (q : Fin 128 → EReal) (k : Fin 128 → BitVec 1) (e : Fin 128 → EReal) (hq : ∀ n, IsReal (q n)) (he : ∀ n, IsReal (e n))
    (hk : ∃ n, k n = 0#1) :
    ∑ n, Ideal.div (refExpo (refScore q k) k n) (∑ i, refExpo (refScore q k) k i) * e n
      = Ideal.div (∑ n, e n * refExpo (refScore q k) k n) (∑ i, refExpo (refScore q k) k i) := by
  obtain ⟨n, hn⟩ := hk
  exact Cert.Own.share_sum _ _ (refExpo_real _ k (refScore_real q k hq)) ⟨n, refExpo_pos _ k (refScore_real q k hq) n hn⟩ he

end Cert.KernelIdeal.Own
-- ==== Proof.RefVals.lean ====
/-
  The reference, line by line, as functions of its arguments.
-/
module

public import proofs.«01_k».proof.Proof.Gen.ReferenceIdeal.Run
public import proofs.«01_k».proof.Proof.Words

@[expose] public section

noncomputable section

namespace Cert.ReferenceIdeal.Own

open Cert.ReferenceIdeal Cert.ReferenceIdeal.Gen
open Idealize.ShloMosaic

variable {F : FTy → Type} [FloatOps F]

/-- Each node's child, negative numbers counted from the end. -/
def child (I : IVec S2048x128 32) : IVec S2048x128x128 32 :=
  have b : IVec S2048x128x128 32 := broadcastInDim S2048x128x128 ![0, 1, 2] bcast_S2048x1x128_S2048x128x128_0_1_2
    (broadcastInDim S2048x1x128 ![0, 2] bcast_S2048x128_S2048x1x128_0_2 I)
  select (cmpi .slt b (broadcastInDim S2048x128x128 ![] bcast_S_S2048x128x128 (constantI S_ 32 0#32)))
    (addi b (broadcastInDim S2048x128x128 ![] bcast_S_S2048x128x128 (constantI S_ 32 128#32))) b

/-- The same as a column of start indices. -/
def start (I : IVec S2048x128 32) : IVec S2048x128x128x1 32 := shapeCast S2048x128x128x1 (child I) shapeCasts_S2048x128x128_S2048x128x128x1

/-- Whether the child is a node of the tree. -/
def within (I : IVec S2048x128 32) : IVec S2048x128x128 1 :=
  Host.reduce IntOp.andi
    (andi (cmpi .sge (start I) (broadcastInDim S2048x128x128x1 ![] bcast_S_S2048x128x128x1 (constantI S_ 32 0#32)))
      (cmpi .sle (start I) (broadcastInDim S2048x128x128x1 ![0, 1, 2, 3] bcast_S1x1x1x1_S2048x128x128x1_0_1_2_3
        (broadcastInDim S1x1x1x1 ![3] bcast_S1_S1x1x1x1_3 (constantI S1 32 127#32)))))
    (constantI S_ 1 1#1) reducesTo_S2048x128x128x1_S2048x128x128_d3 h_S_

/-- The children's features. -/
def gathered (X : FVec F S2048x128x128 .f32) (I : IVec S2048x128 32) : FVec F S2048x128x128 .f32 :=
  select (within I) (Host.gather gather_S2048x128x128_S2048x128x128x1_S2048x128x128_n_2_01_01_2_3_111 X (start I))
    (broadcastInDim S2048x128x128 ![] bcast_S_S2048x128x128 (constant S_ .f32 0x7FC00000#32))

/-- The embeddings, node by node. -/
def emb (X : FVec F S2048x128x128 .f32) (I : IVec S2048x128 32) (W : FVec F S128x128 .f32) : FVec F S2048x128x128 .f32 :=
  transpose S2048x128x128 [0, 2, 1]
    (maximumf (transpose S2048x128x128 [0, 2, 1]
      (Host.dotGeneral dot_S2048x128x128_S128x128_S2048x128x128_1_1_02_0_n_n none (addf X (gathered X I)) W)
        transposes_S2048x128x128_S2048x128x128_0_2_1)
      (broadcastInDim S2048x128x128 ![] bcast_S_S2048x128x128 (constant S_ .f32 0x00000000#32)))
    transposes_S2048x128x128_S2048x128x128_0_2_1

/-- The scores, a masked node's set to a large negative number. -/
def score (e : FVec F S2048x128x128 .f32) (k : IVec S2048x128 1) (g : FVec F S128 .f32) : FVec F S2048x128 .f32 :=
  select (noti k) (Host.dotGeneral dot_S2048x128x128_S128_S2048x128_2_0_01_n_n_n none e g)
    (broadcastInDim S2048x128 ![] bcast_S_S2048x128 (constant S_ .f32 0xF149F2CA#32))

/-- The exponentials, a masked node's set to zero. -/
def expo (s : FVec F S2048x128 .f32) (k : IVec S2048x128 1) : FVec F S2048x128 .f32 :=
  select (noti k)
    (Host.exp (subf s (broadcastInDim S2048x128 ![0, 1] bcast_S2048x1_S2048x128_0_1 (broadcastInDim S2048x1 ![0] bcast_S2048_S2048x1_0
      (Host.reduce FloatOps.maximumf s (constant S_ .f32 0xFF800000#32) reducesTo_S2048x128_S2048_d1 h_S_)))))
    (broadcastInDim S2048x128 ![] bcast_S_S2048x128 (constant S_ .f32 0x00000000#32))

/-- The pooled vectors. -/
def pool (e : FVec F S2048x128x128 .f32) (x : FVec F S2048x128 .f32) : FVec F S2048x128 .f32 :=
  Host.divf
    (Host.reduceAdd (mulf e (broadcastInDim S2048x128x128 ![0, 1, 2] bcast_S2048x128x1_S2048x128x128_0_1_2
      (broadcastInDim S2048x128x1 ![0, 1] bcast_S2048x128_S2048x128x1_0_1 x))) (constant S_ .f32 0x00000000#32)
      reducesTo_S2048x128x128_S2048x128_d1 h_S_)
    (broadcastInDim S2048x128 ![0, 1] bcast_S2048x1_S2048x128_0_1 (broadcastInDim S2048x1 ![0] bcast_S2048_S2048x1_0
      (Host.reduceAdd x (constant S_ .f32 0x00000000#32) reducesTo_S2048x128_S2048_d1 h_S_)))

/-- The second node's embedding beside the pooled vector. -/
def combine (e : FVec F S2048x128x128 .f32) (p : FVec F S2048x128 .f32) : FVec F S2048x256 .f32 :=
  concatenate S2048x256 1 [⟨S2048x128, shapeCast S2048x128 (extractStridedSlice S2048x1x128 ![0, 1, 0] e slices_S2048x128x128_S2048x1x128_0_1_0) shapeCasts_S2048x1x128_S2048x128⟩,
    ⟨S2048x128, p⟩] concatenates_S2048x128_S2048x128_S2048x256_d1

/-- The combined vectors. -/
def combined (X : FVec F S2048x128x128 .f32) (I : IVec S2048x128 32) (k : IVec S2048x128 1) (W : FVec F S128x128 .f32) (g : FVec F S128 .f32) :
    FVec F S2048x256 .f32 :=
  combine (emb X I W) (pool (emb X I W) (expo (score (emb X I W) k g) k))

/-- The two-layer perceptron. -/
def mlp (z : FVec F S2048x256 .f32) (A : FVec F S256x64 .f32) (a : FVec F S64 .f32) (B : FVec F S64x1 .f32) (b : FVec F S1 .f32) : FVec F S2048x1 .f32 :=
  addf (Host.dotGeneral dot_S2048x64_S64x1_S2048x1_1_0_0_1_n_n none
      (maximumf (addf (Host.dotGeneral dot_S2048x256_S256x64_S2048x64_1_0_0_1_n_n none z A)
          (broadcastInDim S2048x64 ![0, 1] bcast_S1x64_S2048x64_0_1 (broadcastInDim S1x64 ![1] bcast_S64_S1x64_1 a)))
        (broadcastInDim S2048x64 ![] bcast_S_S2048x64 (constant S_ .f32 0x00000000#32))) B)
    (broadcastInDim S2048x1 ![0, 1] bcast_S1x1_S2048x1_0_1 (broadcastInDim S1x1 ![1] bcast_S1_S1x1_1 b))

variable (m : (ℓ : Loc nD τ sig) → Buf (Elt F) ℓ) (c : Dev nD)

theorem res_combined : Value.res_main_v27 m c = combined (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold Value.res_main_v27
  rfl

theorem res_mlp : Value.res_main_v36 m c = mlp (combined (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)))
    (m ((c.tc : Thread nD τ).loc main_arg5)) (m ((c.tc : Thread nD τ).loc main_arg6)) (m ((c.tc : Thread nD τ).loc main_arg7))
    (m ((c.tc : Thread nD τ).loc main_arg8)) := by
  unfold Value.res_main_v36
  rfl

/-! ## Entry by entry -/

theorem start_apply (I : IVec S2048x128 32) (b : Fin 2048) (f n : Fin 128) (h : (I (ix2 b n)).toNat < 128) : start I (ix4 b f n 0) = I (ix2 b n) := by
  pointwise [start, child]
  exact Cert.Own.wrap_eq _ h

/-- The start index that an entry of the gather reads. -/
theorem startIdx (b : Fin 2048) (f n : Fin 128) (k : Fin 1) :
    gather_S2048x128x128_S2048x128x128x1_S2048x128x128_n_2_01_01_2_3_111.siIdx (ix3 b f n) k = ix4 b f n 0 := by
  funext a; refine Fin.ext ?_
  match a with
  | ⟨0, _⟩ => rfl
  | ⟨1, _⟩ => rfl
  | ⟨2, _⟩ => rfl
  | ⟨3, _⟩ => show k.val = 0; omega

/-- The gather reads the child's features. -/
theorem gather_apply {α : Type} (x : S2048x128x128.Idx → α) (i : IVec S2048x128x128x1 32) (b : Fin 2048) (f n : Fin 128)
    (h : (i (ix4 b f n 0)).toNat < 128) :
    Host.gather gather_S2048x128x128_S2048x128x128x1_S2048x128x128_n_2_01_01_2_3_111 x i (ix3 b f n) = x (ix3 b f ⟨(i (ix4 b f n 0)).toNat, h⟩) := by
  unfold Host.gather
  congr 1
  funext a
  refine Fin.ext ?_
  generalize hd : gather_S2048x128x128_S2048x128x128x1_S2048x128x128_n_2_01_01_2_3_111 = d
  show d.start (ix3 b f n) i a + d.batchCoord (ix3 b f n) a + d.offCoord (ix3 b f n) a = _
  subst hd
  fin_cases a
  · rw [GatherDims.start_batching _ _ _ _ (by decide), GatherDims.offCoord_eq_zero _ _ _ (by decide)]
    unfold GatherDims.batchCoord
    rw [dif_pos (by decide)]
    show 0 + b.val + 0 = b.val
    omega
  · rw [GatherDims.start_batching _ _ _ _ (by decide), GatherDims.offCoord_eq_zero _ _ _ (by decide)]
    unfold GatherDims.batchCoord
    rw [dif_pos (by decide)]
    show 0 + f.val + 0 = f.val
    omega
  · rw [GatherDims.batchCoord_eq_zero _ _ _ (by decide), GatherDims.offCoord_eq_zero _ _ _ (by decide)]
    unfold GatherDims.start
    rw [dif_pos (by decide)]
    exact (congrArg (fun q => min (i q).toInt.toNat (128 - 1)) (startIdx b f n 0)).trans (Cert.Own.clamp_eq _ h)

theorem gathered_apply (X : FVec Ideal S2048x128x128 .f32) (I : IVec S2048x128 32) (b : Fin 2048) (f n : Fin 128) (h : (I (ix2 b n)).toNat < 128) :
    gathered X I (ix3 b f n) = X (ix3 b f ⟨(I (ix2 b n)).toNat, h⟩) := by
  pointwise [gathered, within]
  have e := start_apply I b f n h
  rw [Finset.univ_unique, Finset.fold_singleton, show (default : Fin 1) = 0 from rfl, e, Cert.Own.within_eq _ h,
    gather_apply X (start I) b f n (by rw [e]; exact h)]
  simp only [e]
  rfl

theorem emb_apply (X : FVec Ideal S2048x128x128 .f32) (I : IVec S2048x128 32) (W : FVec Ideal S128x128 .f32) (b : Fin 2048) (n d : Fin 128)
    (h : (I (ix2 b n)).toNat < 128) :
    emb X I W (ix3 b n d) = max (∑ f, (X (ix3 b f n) + X (ix3 b f ⟨(I (ix2 b n)).toNat, h⟩)) * W (ix2 d f)) 0 := by
  pointwise [emb]
  simp only [gathered_apply X I b _ n h]

theorem score_apply (e : FVec Ideal S2048x128x128 .f32) (k : IVec S2048x128 1) (g : FVec Ideal S128 .f32) (b : Fin 2048) (n : Fin 128) :
    score e k g (ix2 b n) = Scalar.select (~~~k (ix2 b n)) (∑ d, e (ix3 b n d) * g (ix1 d)) (Ideal.ofBits .f32 0xF149F2CA#32) := by
  pointwise [score]

theorem expo_apply (s : FVec Ideal S2048x128 .f32) (k : IVec S2048x128 1) (b : Fin 2048) (n : Fin 128) :
    expo s k (ix2 b n) = Scalar.select (~~~k (ix2 b n)) (Ideal.exp (s (ix2 b n) - Finset.fold max ⊥ (fun x => s (ix2 b x)) Finset.univ)) 0 := by
  pointwise [expo]
  rw [Cert.Own.bottom_eq]

theorem pool_apply (e : FVec Ideal S2048x128x128 .f32) (x : FVec Ideal S2048x128 .f32) (b : Fin 2048) (d : Fin 128) :
    pool e x (ix2 b d) = Ideal.div (∑ n, e (ix3 b n d) * x (ix2 b n)) (∑ n, x (ix2 b n)) := by
  pointwise [pool]

theorem combine_apply (e : FVec Ideal S2048x128x128 .f32) (x : FVec Ideal S2048x128 .f32) (b : Fin 2048) (n : Fin 256) :
    combine e x (ix2 b n) = if h : n.val < 128 then e (ix3 b 1 ⟨n.val, h⟩) else x (ix2 b ⟨n.val - 128, by omega⟩) := by
  pointwise [combine]

theorem mlp_apply (z : FVec Ideal S2048x256 .f32) (A : FVec Ideal S256x64 .f32) (a : FVec Ideal S64 .f32) (B : FVec Ideal S64x1 .f32) (β : FVec Ideal S1 .f32) (b : Fin 2048) :
    mlp z A a B β (ix2 b 0) = ∑ h, max (∑ k, z (ix2 b k) * A (ix2 k h) + a (ix1 h)) 0 * B (ix2 h 0) + β (ix1 0) := by
  pointwise [mlp]

end Cert.ReferenceIdeal.Own
-- ==== Proof.Equation.lean ====
/-
  The combined vectors the kernel writes are the reference's.
-/
module

public import proofs.«01_k».proof.Proof.Blocks
public import proofs.«01_k».proof.Proof.HostVals
public import proofs.«01_k».proof.Proof.Emb
public import proofs.«01_k».proof.Proof.Row
public import proofs.«01_k».proof.Proof.RefVals
public import proofs.«01_k».proof.Proof.Tail

@[expose] public section

noncomputable section

namespace Cert.KernelIdeal.Own

open Cert.KernelIdeal Cert.KernelIdeal.Gen
open Idealize.ShloMosaic
open Idealize.ShloMosaic.TcCoe Idealize.ShloMosaic.Tactic
open Cert.Own (IsReal)

variable (m : (ℓ : Loc nD τ sig) → Buf (Elt Ideal) ℓ) (c : Dev nD)

/-- The trees. -/
abbrev trees : FVec Ideal S2048x128x128 .f32 := m ((c.tc : Thread nD τ).loc main_arg0)
/-- Each node's child. -/
abbrev childOf : IVec S2048x128 32 := m ((c.tc : Thread nD τ).loc main_arg1)
/-- Which nodes are masked. -/
abbrev masked : IVec S2048x128 1 := m ((c.tc : Thread nD τ).loc main_arg2)
/-- The embeddings' matrix. -/
abbrev matrix : FVec Ideal S128x128 .f32 := m ((c.tc : Thread nD τ).loc main_arg3)
/-- The gate. -/
abbrev gate : FVec Ideal S128 .f32 := m ((c.tc : Thread nD τ).loc main_arg4)
/-- The reference's embeddings. -/
abbrev refEmb : FVec Ideal S2048x128x128 .f32 := Cert.ReferenceIdeal.Own.emb (F := Ideal) (trees m c) (childOf m c) (matrix m c)

/-! ## The inputs of the first kernel -/

theorem V3_trees : (V3 m c main_arg0 : S2048x128x128.Idx → EReal) = trees m c := V3_arg m c main_arg0 (by decide) (by decide) (by decide)
theorem V3_children : (V3 m c main_arg1 : S2048x128.Idx → BitVec 32) = childOf m c := V3_arg m c main_arg1 (by decide) (by decide) (by decide)

/-- The embeddings a point of the first kernel computes are the reference's. -/
theorem emb_eq (hI : ∀ b n, (childOf m c (ix2 b n)).toNat < 128) (u : Fin cfg0.N) (p : Fin 64) (b : Fin 2048)
    (hb : b.val = min u.val 31 * 64 + p.val) (d n : Fin 128) :
    emb (V3 m c) u (ix2 d ⟨128 * p.val + n.val, by omega⟩) = refEmb m c (ix3 b n d) := by
  have hi : in0 (V3 m c) u 1 (ix2 p n) = childOf m c (ix2 b n) := (in0_children _ u p n b hb).trans (congrFun (V3_children m c) _)
  have hX : ∀ f i, in0 (V3 m c) u 0 (ix3 p f i) = trees m c (ix3 b f i) := fun f i => (in0_trees _ u p f i b hb).trans (congrFun (V3_trees m c) _)
  have hW : ∀ j, in0 (V3 m c) u 3 j = matrix m c j := fun j => (in0_matrix _ u j).trans (congrFun (V3_v3 m c) j)
  have hlt : (in0 (V3 m c) u 1 (ix2 p n)).toNat < 128 := by rw [hi]; exact hI b n
  refine (embBuf_apply (in0 (V3 m c) u 3) (in0 (V3 m c) u 0) (in0 (V3 m c) u 1) d n p hlt).trans ?_
  refine Eq.trans ?_ (Cert.ReferenceIdeal.Own.emb_apply (trees m c) (childOf m c) (matrix m c) b n d (hI b n)).symm
  refine congrArg (fun s => max s 0) (Finset.sum_congr rfl fun f _ => ?_)
  rw [hW, hX, hX, mul_comm]
  simp only [hi]

/-- The reference's embeddings are real. -/
theorem refEmb_real (hI : ∀ b n, (childOf m c (ix2 b n)).toNat < 128) (hX : ∀ i, IsReal (trees m c i)) (hW : ∀ i, IsReal (matrix m c i))
    (b : Fin 2048) (n d : Fin 128) : IsReal (refEmb m c (ix3 b n d)) := by
  have e := Cert.ReferenceIdeal.Own.emb_apply (trees m c) (childOf m c) (matrix m c) b n d (hI b n)
  rw [show refEmb m c (ix3 b n d) = _ from e]
  exact (IsReal.sum fun f => ((hX _).add (hX _)).mul (hW _)).max' IsReal.zero

/-- One row's scores before masking. -/
def rowDots (b : Fin 2048) (n : Fin 128) : EReal := ∑ d, refEmb m c (ix3 b n d) * gate m c (ix1 d)
/-- One row of the masks. -/
def rowMask (b : Fin 2048) (n : Fin 128) : BitVec 1 := masked m c (ix2 b n)
/-- One row's exponentials. -/
def rowWeight (b : Fin 2048) : Fin 128 → EReal := refExpo (refScore (rowDots m c b) (rowMask m c b)) (rowMask m c b)

/-- The reference's exponentials, row by row. -/
theorem ref_weight (b : Fin 2048) (n : Fin 128) :
    Cert.ReferenceIdeal.Own.expo (F := Ideal) (Cert.ReferenceIdeal.Own.score (F := Ideal) (refEmb m c) (masked m c) (gate m c)) (masked m c) (ix2 b n)
      = rowWeight m c b n := by
  have hs : ∀ i, Cert.ReferenceIdeal.Own.score (F := Ideal) (refEmb m c) (masked m c) (gate m c) (ix2 b i)
      = refScore (rowDots m c b) (rowMask m c b) i := fun i => Cert.ReferenceIdeal.Own.score_apply (refEmb m c) (masked m c) (gate m c) b i
  refine (Cert.ReferenceIdeal.Own.expo_apply _ (masked m c) b n).trans ?_
  simp only [hs]
  rfl

theorem V3_gate_apply (d : Fin 128) : (V3 m c main_v5 : S1x128.Idx → EReal) (ix2 0 d) = gate m c (ix1 d) := by
  refine (congrFun (V3_v5 m c) (ix2 0 d)).trans ?_
  show shapeCast S1x128 (gate m c) shapeCasts_S128_S1x128 (ix2 0 d) = _
  pointwise []

/-- A row of a block, from what its inputs are, is the reference's combined vector. -/
theorem row_combined (hI : ∀ b n, (childOf m c (ix2 b n)).toNat < 128) (hk : ∀ b, ∃ n : Fin 128, masked m c (ix2 b n) = 0#1)
    (hX : ∀ i, IsReal (trees m c i)) (hW : ∀ i, IsReal (matrix m c i)) (hg : ∀ i, IsReal (gate m c i))
    (E : Vec Ideal S128x8192 .bf16) (G : Vec Ideal S1x128 .bf16) (v : Vec Ideal S64x128 .f32) (bm rs : Vec Ideal S64x8192 .bf16) (p : Fin 64) (b : Fin 2048)
    (hE : ∀ d i : Fin 128, E (ix2 d ⟨128 * p.val + i.val, by omega⟩) = refEmb m c (ix3 b i d))
    (hG : ∀ d, G (ix2 0 d) = gate m c (ix1 d)) (hv : (fun i => v (ix2 p i)) = counts (rowMask m c b))
    (hbm : ∀ j : Fin 8192, bm (ix2 p j) = if j.val / 128 = p.val then 1 else 0)
    (hrs : ∀ j : Fin 8192, rs (ix2 p j) = if j = ⟨128 * p.val + 1, by omega⟩ then 1 else 0) (n : Fin 256) :
    pooled (fun j => E (ix2 (j 1) (j 2))) G v bm rs (ix2 p n)
      = Cert.ReferenceIdeal.Own.combined (F := Ideal) (trees m c) (childOf m c) (masked m c) (matrix m c) (gate m c) (ix2 b n) := by
  have hq : (fun i : Fin 128 => ∑ d : Fin 128, G (ix2 0 d) * E (ix2 d ⟨128 * p.val + i.val, by omega⟩)) = rowDots m c b :=
    funext fun i => Finset.sum_congr rfl fun d _ => by rw [hG, hE, mul_comm]
  have hx : rowWeight m c b = rowExpo (rowScore (fun i : Fin 128 => ∑ d : Fin 128, G (ix2 0 d)
      * E (ix2 d ⟨128 * p.val + i.val, by omega⟩)) (fun i => v (ix2 p i))) (fun i => v (ix2 p i)) := by
    rw [hv, hq, row_eq]
    rfl
  refine (pooled_apply (fun j => E (ix2 (j 1) (j 2))) G v bm rs p hbm hrs n (rowWeight m c b) hx).trans ?_
  refine Eq.trans ?_ (Cert.ReferenceIdeal.Own.combine_apply (refEmb m c) _ b n).symm
  by_cases h : n.val < 128
  · rw [dif_pos h, dif_pos h]
    exact hE ⟨n.val, h⟩ 1
  · rw [dif_neg h, dif_neg h]
    refine Eq.trans ?_ (Cert.ReferenceIdeal.Own.pool_apply (refEmb m c) _ b ⟨n.val - 128, by omega⟩).symm
    have hq' : ∀ i, IsReal (rowDots m c b i) := fun i => IsReal.sum fun d => (refEmb_real m c hI hX hW b i d).mul (hg _)
    have key := row_pool (rowDots m c b) (rowMask m c b) (fun i => refEmb m c (ix3 b i ⟨n.val - 128, by omega⟩)) hq'
      (fun i => refEmb_real m c hI hX hW b i _) (hk b)
    simp only [ref_weight]
    refine Eq.trans (Finset.sum_congr rfl fun i _ => ?_) key
    exact congrArg (fun e => Ideal.div (rowWeight m c b i) (∑ k, rowWeight m c b k) * e) (hE ⟨n.val - 128, by omega⟩ i)

/-- A block of the first kernel's output is the reference's combined vectors. -/
theorem outBlk_eq (hI : ∀ b n, (childOf m c (ix2 b n)).toNat < 128) (hk : ∀ b, ∃ n : Fin 128, masked m c (ix2 b n) = 0#1)
    (hX : ∀ i, IsReal (trees m c i)) (hW : ∀ i, IsReal (matrix m c i)) (hg : ∀ i, IsReal (gate m c i))
    (u t : Fin cfg0.N) (hut : u.val + 1 = t.val) (hu : u.val ≤ 31) (p : Fin 64) (b : Fin 2048) (hb : b.val = u.val * 64 + p.val) (n : Fin 256) :
    outBlk (V3 m c) u t (ix2 p n)
      = Cert.ReferenceIdeal.Own.combined (F := Ideal) (trees m c) (childOf m c) (masked m c) (matrix m c) (gate m c) (ix2 b n) :=
  row_combined m c hI hk hX hW hg (emb (V3 m c) u) (in0 (V3 m c) t 4) (in0 (V3 m c) t 2) (in0 (V3 m c) t 6) (in0 (V3 m c) t 5) p b
    (fun d i => emb_eq m c hI u p b (by rw [hb, Nat.min_eq_left hu]) d i)
    (fun d => (in0_gate _ t _).trans (V3_gate_apply m c d))
    (funext fun i => ((in0_valid _ t p i b (by rw [hb, ← hut, Nat.add_sub_cancel])).trans (congrFun (V3_v2 m c) _)).trans (validOf_apply (masked m c) b i))
    (fun j => ((in0_block _ t _).trans (congrFun (V3_v22 m c) _)).trans (blockMask_apply p j))
    (fun j => ((in0_pick _ t _).trans (congrFun (V3_v17 m c) _)).trans (pickMask_apply p j)) n

/-- The combined vectors. -/
theorem combined_eq (hI : ∀ b n, (childOf m c (ix2 b n)).toNat < 128) (hk : ∀ b, ∃ n : Fin 128, masked m c (ix2 b n) = 0#1)
    (hX : ∀ i, IsReal (trees m c i)) (hW : ∀ i, IsReal (matrix m c i)) (hg : ∀ i, IsReal (gate m c i)) :
    dropRows (embArr (V3 m c))
      = Cert.ReferenceIdeal.Own.combined (F := Ideal) (trees m c) (childOf m c) (masked m c) (matrix m c) (gate m c) := by
  funext j
  obtain ⟨b, n, rfl⟩ : ∃ b n, j = ix2 b n := ⟨j 0, j 1, eq_ix2 j⟩
  have hb : b.val < 2048 := b.isLt
  have e : dropRows (embArr (V3 m c)) (ix2 b n) = embArr (V3 m c) (ix2 ⟨64 + b.val, by omega⟩ n) := by
    show extractStridedSlice S2048x256 ![64, 0] (embArr (V3 m c)) slices_S2112x256_S2048x256_64_0 (ix2 b n) = _
    pointwise []
  rw [e]
  exact outBlk_eq m c hI hk hX hW hg _ _ (by dsimp only [ix2]; show (64 + b.val) / 64 - 1 + 1 = (64 + b.val) / 64; omega)
    (by show (64 + b.val) / 64 - 1 ≤ 31; omega) ⟨(64 + b.val) % 64, Nat.mod_lt _ (by decide)⟩ b
    (by show b.val = ((64 + b.val) / 64 - 1) * 64 + (64 + b.val) % 64; omega) n

end Cert.KernelIdeal.Own
-- ==== Proof.Mlp.lean ====
/-
  The second kernel's output is the reference's perceptron of the combined vectors.
-/
module

public import proofs.«01_k».proof.Proof.Equation
public import proofs.«01_k».proof.Proof.Run

@[expose] public section

noncomputable section

namespace Cert.KernelIdeal.Own

open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- The first layer's matrix. -/
abbrev first : FVec Ideal S256x64 .f32 := m ((c.tc : Thread nD τ).loc main_arg5)
/-- The first layer's bias. -/
abbrev firstBias : FVec Ideal S64 .f32 := m ((c.tc : Thread nD τ).loc main_arg6)
/-- The second layer's matrix. -/
abbrev second : FVec Ideal S64x1 .f32 := m ((c.tc : Thread nD τ).loc main_arg7)
/-- The second layer's bias. -/
abbrev secondBias : FVec Ideal S1 .f32 := m ((c.tc : Thread nD τ).loc main_arg8)

/-- What the first kernel leaves alone. -/
theorem U4_arg (r : Ref sig .tc) (h : r ≠ main_v23) : U4 m c r = V3 m c r := by
  have hne := (StableHlo.devRef_ne_of_ne h : (Proc.devRef .tc r : DevRef τ sig) ≠ Proc.devRef .tc main_v23)
  show U4 m c (Proc.devRef .tc r) = V3 m c (Proc.devRef .tc r)
  unfold U4
  rw [Function.update_of_ne hne]

theorem U5_rows : (U5 m c main_v24 : S2048x256.Idx → EReal) = dropRows (embArr (V3 m c)) := by
  refine (tail_v24 (U4 m c)).trans (congrArg dropRows ?_)
  unfold U4
  exact Function.update_self (Proc.devRef .tc main_v23) (embArr (V3 m c)) (V3 m c)

theorem U5_first : (U5 m c main_v25 : S256x64.Idx → EReal) = first m c :=
  (tail_v25 (U4 m c)).trans (congrArg (fun x : FVec Ideal S256x64 .f32 => truncf .bf16 x)
    ((U4_arg m c main_arg5 (by decide)).trans (V3_arg m c main_arg5 (by decide) (by decide) (by decide))))

theorem U5_firstBias : (U5 m c main_v26 : S1x64.Idx → EReal) = shapeCast S1x64 (firstBias m c) shapeCasts_S64_S1x64 :=
  (tail_v26 (U4 m c)).trans (congrArg (fun x : FVec Ideal S64 .f32 => shapeCast S1x64 x shapeCasts_S64_S1x64)
    ((U4_arg m c main_arg6 (by decide)).trans (V3_arg m c main_arg6 (by decide) (by decide) (by decide))))

theorem U5_second : (U5 m c main_v27 : S64x1.Idx → EReal) = second m c :=
  (tail_v27 (U4 m c)).trans (congrArg (fun x : FVec Ideal S64x1 .f32 => truncf .bf16 x)
    ((U4_arg m c main_arg7 (by decide)).trans (V3_arg m c main_arg7 (by decide) (by decide) (by decide))))

theorem U5_secondBias : (U5 m c main_v28 : S1x1.Idx → EReal) = shapeCast S1x1 (secondBias m c) shapeCasts_S1_S1x1 :=
  (tail_v28 (U4 m c)).trans (congrArg (fun x : FVec Ideal S1 .f32 => shapeCast S1x1 x shapeCasts_S1_S1x1)
    ((U4_arg m c main_arg8 (by decide)).trans (V3_arg m c main_arg8 (by decide) (by decide) (by decide))))

theorem bias_row (a : FVec Ideal S64 .f32) (h : Fin 64) : shapeCast S1x64 a shapeCasts_S64_S1x64 (ix2 0 h) = a (ix1 h) := by
  pointwise []

theorem bias_one (a : FVec Ideal S1 .f32) : shapeCast S1x1 a shapeCasts_S1_S1x1 (ix2 0 0) = a (ix1 0) := by
  pointwise []

/-- A block's row, from what its inputs are, is the reference's. -/
theorem row_mlp (z : FVec Ideal S2048x256 .f32) (X : Vec Ideal S512x256 .f32) (A : Vec Ideal S256x64 .bf16) (a : Vec Ideal S1x64 .f32)
    (B : Vec Ideal S64x1 .bf16) (β : Vec Ideal S1x1 .f32) (r : Fin 512) (b : Fin 2048) (hX : ∀ k, X (ix2 r k) = z (ix2 b k))
    (hA : ∀ j, A j = first m c j) (ha : ∀ h, a (ix2 0 h) = firstBias m c (ix1 h)) (hB : ∀ j, B j = second m c j)
    (hβ : β (ix2 0 0) = secondBias m c (ix1 0)) :
    k1_pay1 X A a B β (ix2 r 0) = Cert.ReferenceIdeal.Own.mlp (F := Ideal) z (first m c) (firstBias m c) (second m c) (secondBias m c) (ix2 b 0) := by
  refine (mlpBlk_apply X A a B β r).trans (Eq.trans ?_ (Cert.ReferenceIdeal.Own.mlp_apply z (first m c) (firstBias m c) (second m c) (secondBias m c) b).symm)
  simp only [hX, hA, ha, hB, hβ]

/-- The predictions. -/
theorem mlp_eq : mlpArr (U5 m c)
    = Cert.ReferenceIdeal.Own.mlp (F := Ideal) (dropRows (embArr (V3 m c))) (first m c) (firstBias m c) (second m c) (secondBias m c) := by
  funext j
  obtain ⟨b, n, rfl⟩ : ∃ (b : Fin 2048) (n : Fin 1), j = ix2 b n := ⟨j 0, j 1, eq_ix2 j⟩
  obtain rfl : n = 0 := Subsingleton.elim _ _
  have hb : b.val < 2048 := b.isLt
  refine row_mlp m c _ _ _ _ _ _ ⟨b.val % 512, Nat.mod_lt _ (by decide)⟩ b
    (fun k => (in1_rows _ _ _ k b (by show b.val = b.val / 512 * 512 + b.val % 512; omega)).trans (congrFun (U5_rows m c) _))
    (fun j => (in1_first _ _ j).trans (congrFun (U5_first m c) j))
    (fun h => ((in1_bias _ _ _).trans (congrFun (U5_firstBias m c) _)).trans (bias_row _ h))
    (fun j => (in1_second _ _ j).trans (congrFun (U5_second m c) j))
    (((in1_last _ _ _).trans (congrFun (U5_secondBias m c) _)).trans (bias_one _))

end Cert.KernelIdeal.Own
-- ==== Proof.Pre.lean ====
/-
  What the precondition says, read off its printed form: indices name nodes, every row has a node that counts, and the
  trees, the matrix and the gate are finite.
-/
module

public import proofs.«01_k».proof.Pre_well_posed
public import proofs.«01_k».proof.Proof.Words
public import proofs.«01_k».proof.Proof.Softmax
public import Idealize.ShloMosaic.Lib.ReduceAll
public import Idealize.ShloMosaic.Lib.Affine
public import Idealize.ShloMosaic.Lib.Pointwise

@[expose] public section

noncomputable section

namespace Cert.Pre_well_posed.Own

open Cert.Pre_well_posed
open Idealize.ShloMosaic
open Idealize.ShloMosaic.Tactic
open Cert.Own (IsReal)

/-- The side conditions of the precondition's operations. -/
instance facts : Facts where
  bcast_S_S2048x128 := by decide
  reducesTo_S2048x128_S_d0_1 := by decide
  h_S_ := by decide
  reducesTo_S2048x128_S2048_d1 := by decide
  reducesTo_S2048_S_d0 := by decide
  bcast_S_S2048x128x128 := by decide
  reducesTo_S2048x128x128_S_d0_1_2 := by decide
  bcast_S_S128x128 := by decide
  reducesTo_S128x128_S_d0_1 := by decide
  bcast_S_S128 := by decide
  reducesTo_S128_S_d0 := by decide

/-- A number whose absolute value is below the greatest is real. -/
theorem isReal_of_test (x : EReal) (h : Ideal.cmp .olt (max x (-x)) (Ideal.ofBits .f32 0x7F800000#32) = 1#1) : IsReal x := by
  rw [Cert.Own.top_eq] at h
  have hlt : max x (-x) < ⊤ := by
    by_contra hn
    have : Ideal.cmp .olt (max x (-x)) ⊤ = 0#1 := by
      show BitVec.ofBool (decide _) = _
      rw [decide_eq_false hn]
      rfl
    rw [this] at h
    exact absurd h (by decide)
  rw [max_lt_iff] at hlt
  refine Cert.Own.isReal_iff.2 ⟨fun e => ?_, ne_of_lt hlt.1⟩
  rw [e] at hlt
  exact absurd hlt.2 (by simp)

/-- A fold by `or` that comes out 1 meets a 1. -/
theorem fold_or {ι : Type} (s : Finset ι) (f : ι → BitVec 1) (h : Finset.fold IntOp.ori 0#1 f s = 1#1) : ∃ n, f n = 1#1 := by
  classical
  by_contra hne
  have h0 : ∀ n, f n = 0#1 := fun n => (Cert.Own.bit_cases (f n)).resolve_right fun e => hne ⟨n, e⟩
  have : Finset.fold IntOp.ori 0#1 f s = 0#1 := by
    clear h
    induction s using Finset.induction_on with
    | empty => exact Finset.fold_empty
    | insert a s ha ih => rw [Finset.fold_insert ha, ih, h0 a]; decide
  rw [this] at h
  exact absurd h (by decide)

/-- A word between 0 and 127, signed, is one of the first 128 numbers. -/
theorem lt_of_tests (w : BitVec 32) (h0 : IntOp.cmpi .sge w 0#32 = 1#1) (h1 : IntOp.cmpi .slt w 128#32 = 1#1) : w.toNat < 128 := by
  rw [IntOp.cmpi_sge] at h0
  rw [IntOp.cmpi_slt] at h1
  have e0 : (0#32 : BitVec 32).toInt = 0 := by decide
  have e1 : (128#32 : BitVec 32).toInt = 128 := by decide
  rw [e0] at h0
  rw [e1] at h1
  rw [BitVec.toInt_eq_toNat_cond] at h0 h1
  have := w.isLt
  split at h0 <;> omega

variable (X : FVec Ideal S2048x128x128 .f32) (I : IVec S2048x128 32) (k : IVec S2048x128 1) (W : FVec Ideal S128x128 .f32) (g : FVec Ideal S128 .f32)
  (A : FVec Ideal S256x64 .f32) (a : FVec Ideal S64 .f32) (B : FVec Ideal S64x1 .f32) (β : FVec Ideal S1 .f32)

/-- A row whose `any` is 1 has a node that is not masked. -/
theorem any_apply (i : S_.Idx → BitVec 1) (hi : i = constantI S_ 1 0#1) (b : Fin 2048)
    (h : Host.reduce IntOp.ori (noti k) i Facts.reducesTo_S2048x128_S2048_d1 Facts.h_S_ (ix1 b) = 1#1) : ∃ n : Fin 128, k (ix2 b n) = 0#1 := by
  subst hi
  have e : Host.reduce IntOp.ori (noti k) (constantI S_ 1 0#1) Facts.reducesTo_S2048x128_S2048_d1 Facts.h_S_ (ix1 b)
      = Finset.fold IntOp.ori 0#1 (fun n : Fin 128 => ~~~(k (ix2 b n))) Finset.univ := by
    pointwise []
  rw [e] at h
  obtain ⟨n, hn⟩ := fold_or _ _ h
  refine ⟨n, (Cert.Own.bit_cases _).resolve_right fun e1 => ?_⟩
  rw [e1] at hn
  exact absurd hn (by decide)

/-- The precondition in full. -/
theorem read (h : fn X I k W g A a B β = fun _ => 1#1) :
    (∀ b n, (I (ix2 b n)).toNat < 128) ∧ (∀ b, ∃ n : Fin 128, k (ix2 b n) = 0#1)
      ∧ (∀ i, IsReal (X i)) ∧ (∀ i, IsReal (W i)) ∧ (∀ i, IsReal (g i)) := by
  have h := congrFun h ix0
  dsimp only [fn, fn_part1] at h
  haveI : Subsingleton S_.Idx := ⟨fun a b => funext fun q => q.elim0⟩
  obtain ⟨hl, hr⟩ := IntOp.andi_eq_one.1 h
  obtain ⟨h5, h8⟩ := IntOp.andi_eq_one.1 hl
  obtain ⟨h17, h21⟩ := IntOp.andi_eq_one.1 hr
  obtain ⟨h12, h16⟩ := IntOp.andi_eq_one.1 h17
  refine ⟨fun b n => ?_, fun b => ?_, fun i => ?_, fun i => ?_, fun i => ?_⟩
  · obtain ⟨u, v⟩ := IntOp.andi_eq_one.1 (Host.reduce_andi_all _ _ _ _ _ h5 (ix2 b n))
    exact lt_of_tests _ u v
  · exact any_apply k _ rfl b (Host.reduce_andi_all _ _ _ _ _ h8 (ix1 b))
  · exact isReal_of_test _ (Host.reduce_andi_all _ _ _ _ _ h12 i)
  · exact isReal_of_test _ (Host.reduce_andi_all _ _ _ _ _ h16 i)
  · exact isReal_of_test _ (Host.reduce_andi_all _ _ _ _ _ h21 i)

end Cert.Pre_well_posed.Own
-- ==== Proof.Algebraic.lean ====
/-
  Kernel and reference, from equal arguments of which the precondition holds, end with equal results.
-/
module

public import proofs.«01_k».proof.Proof.Frames
public import proofs.«01_k».proof.Proof.Mlp
public import proofs.«01_k».proof.Proof.Pre

@[expose] public section

noncomputable section

namespace Cert.Own

open Idealize.ShloMosaic Idealize.SL.Sem Idealize.ShloMosaic.TcCoe

/-- The kernel as idealised, under the precondition. -/
theorem frame_ideal_pre : Cert.quiescent_KernelIdeal_pre_well_posed (hKernelIdeal := Cert.KernelIdeal.Gen.facts)
    (hPre_well_posed := Cert.Pre_well_posed.Own.facts) := fun m g _ =>
  θ_run_mono (Cert.KernelIdeal.Own.run_values (F := Ideal) m g) fun _ h => ⟨fun c => (h.1 c).2, h.2⟩

/-- The reference, under the precondition. -/
theorem frame_reference_pre : Cert.quiescent_ReferenceIdeal_pre_well_posed (hReferenceIdeal := Cert.ReferenceIdeal.Gen.facts)
    (hPre_well_posed := Cert.Pre_well_posed.Own.facts) := fun m g _ =>
  θ_run_mono (Cert.ReferenceIdeal.Value.run (F := Ideal) m g) fun r h => ⟨fun c => (h c).2.2, sem_eq_zero_of_no_sems (by decide) r.2⟩

/-- The results are equal. -/
theorem algebraic : Cert.algebraic_KernelIdeal_ReferenceIdeal_pre_well_posed (hKernelIdeal := Cert.KernelIdeal.Gen.facts)
    (hReferenceIdeal := Cert.ReferenceIdeal.Gen.facts) (hPre_well_posed := Cert.Pre_well_posed.Own.facts) := fun m g m' g' hpre hargs => by
  have hz : ∀ c, Cert.KernelIdeal.Own.dropRows (Cert.KernelIdeal.Own.embArr (Cert.KernelIdeal.Gen.V3 m c))
      = Cert.ReferenceIdeal.Value.res_main_v27 (F := Ideal) m' c := fun c => by
    obtain ⟨hI, hk, hX, hW, hg⟩ := Cert.Pre_well_posed.Own.read _ _ _ _ _ _ _ _ _ (hpre c)
    obtain ⟨e0, e1, e2, e3, e4, -⟩ := hargs c
    rw [Cert.ReferenceIdeal.Own.res_combined, e0, e1, e2, e3, e4]
    exact Cert.KernelIdeal.Own.combined_eq m c hI hk hX hW hg
  have hp : ∀ c, Cert.KernelIdeal.Own.mlpArr (Cert.KernelIdeal.Own.U5 m c) = Cert.ReferenceIdeal.Value.res_main_v36 (F := Ideal) m' c := fun c => by
    obtain ⟨-, -, -, -, -, e5, e6, e7, e8⟩ := hargs c
    rw [Cert.KernelIdeal.Own.mlp_eq, hz c, Cert.ReferenceIdeal.Own.res_combined, Cert.ReferenceIdeal.Own.res_mlp, e5, e6, e7, e8]
  refine ⟨fun c => Cert.KernelIdeal.Own.mlpArr (Cert.KernelIdeal.Own.U5 m c),
    fun c => Cert.KernelIdeal.Own.dropRows (Cert.KernelIdeal.Own.embArr (Cert.KernelIdeal.Gen.V3 m c)),
    θ_run_mono (Cert.KernelIdeal.Own.run_values (F := Ideal) m g) fun _ h c => ⟨(h.1 c).1.1, (h.1 c).1.2, (h.1 c).2⟩,
    θ_run_mono (Cert.ReferenceIdeal.Value.run (F := Ideal) m' g') fun _ h c =>
      ⟨(h c).1.trans (hp c).symm, (h c).2.1.trans (hz c).symm, (h c).2.2⟩⟩

end Cert.Own

end
-- ==== Proof.lean ====
/-
  The certificate: the frame of each program, and kernel and reference equal under the precondition.
-/
module

public import proofs.«01_k».proof.Defs
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_well_posed.Own.facts,
  Cert.Own.frame_kernel, Cert.Own.frame_ideal, Cert.Own.frame_ideal_pre, Cert.Own.frame_reference, Cert.Own.frame_reference_pre, trivial,
  Cert.Own.algebraic⟩

end Cert.Proof

end
